-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x543x3 : Shape := ⟨3, ![16384, 543, 3]⟩
abbrev S3x543x16384 : Shape := ⟨3, ![3, 543, 16384]⟩
abbrev S270336 : Shape := ⟨1, ![270336]⟩
abbrev S3x8x2048 : Shape := ⟨3, ![3, 8, 2048]⟩
abbrev S8448 : Shape := ⟨1, ![8448]⟩
abbrev S_ : Shape := ⟨0, ![]⟩
abbrev S1x8x2048 : Shape := ⟨3, ![1, 8, 2048]⟩
abbrev S8x2048 : Shape := ⟨2, ![8, 2048]⟩
abbrev S16 : Shape := ⟨1, ![16]⟩
abbrev S1x16 : Shape := ⟨2, ![1, 16]⟩
abbrev S132x2048 : Shape := ⟨2, ![132, 2048]⟩
abbrev S24x3x8 : Shape := ⟨3, ![24, 3, 8]⟩
abbrev S3x8x16384 : Shape := ⟨3, ![3, 8, 16384]⟩
abbrev S1x3x8 : Shape := ⟨3, ![1, 3, 8]⟩
abbrev S3x8 : Shape := ⟨2, ![3, 8]⟩
abbrev S132x16 : Shape := ⟨2, ![132, 16]⟩
abbrev S72x16 : Shape := ⟨2, ![72, 16]⟩
abbrev S132x256 : Shape := ⟨2, ![132, 256]⟩
abbrev S132x128 : Shape := ⟨2, ![132, 128]⟩
abbrev S132x8x16 : Shape := ⟨3, ![132, 8, 16]⟩
abbrev S132x8 : Shape := ⟨2, ![132, 8]⟩
abbrev S72x8 : Shape := ⟨2, ![72, 8]⟩
abbrev S3x352 : Shape := ⟨2, ![3, 352]⟩
abbrev S3x24x8 : Shape := ⟨3, ![3, 24, 8]⟩
abbrev S3x192 : Shape := ⟨2, ![3, 192]⟩
abbrev S3x544 : Shape := ⟨2, ![3, 544]⟩
abbrev S3x543 : Shape := ⟨2, ![3, 543]⟩
abbrev S543x3 : Shape := ⟨2, ![543, 3]⟩
abbrev S1629 : Shape := ⟨1, ![1629]⟩
abbrev S3258 : Shape := ⟨1, ![3258]⟩
abbrev S1x3258 : Shape := ⟨2, ![1, 3258]⟩

abbrev nBuf : Table → Nat
  | .hbm => 30
  | .local .tc .vmem => 11
  | .local .scVector .vmem => 2
  | _ => 0

abbrev bufTy : (tb : Table) → Fin (nBuf tb) → BufTy
  | .hbm, ⟨0, _⟩ => ⟨S16384x543x3, .f32⟩
  | .hbm, ⟨1, _⟩ => ⟨S3x543x16384, .f32⟩
  | .hbm, ⟨2, _⟩ => ⟨S270336, .f32⟩
  | .hbm, ⟨3, _⟩ => ⟨S132x2048, .f32⟩
  | .hbm, ⟨4, _⟩ => ⟨S24x3x8, .f32⟩
  | .hbm, ⟨5, _⟩ => ⟨S24x3x8, .f32⟩
  | .hbm, ⟨6, _⟩ => ⟨S132x16, .f32⟩
  | .hbm, ⟨7, _⟩ => ⟨S72x16, .f32⟩
  | .hbm, ⟨8, _⟩ => ⟨S132x8, .f32⟩
  | .hbm, ⟨9, _⟩ => ⟨S3x352, .f32⟩
  | .hbm, ⟨10, _⟩ => ⟨S132x8, .f32⟩
  | .hbm, ⟨11, _⟩ => ⟨S3x352, .f32⟩
  | .hbm, ⟨12, _⟩ => ⟨S72x8, .f32⟩
  | .hbm, ⟨13, _⟩ => ⟨S24x3x8, .f32⟩
  | .hbm, ⟨14, _⟩ => ⟨S3x24x8, .f32⟩
  | .hbm, ⟨15, _⟩ => ⟨S3x192, .f32⟩
  | .hbm, ⟨16, _⟩ => ⟨S72x8, .f32⟩
  | .hbm, ⟨17, _⟩ => ⟨S24x3x8, .f32⟩
  | .hbm, ⟨18, _⟩ => ⟨S3x24x8, .f32⟩
  | .hbm, ⟨19, _⟩ => ⟨S3x192, .f32⟩
  | .hbm, ⟨20, _⟩ => ⟨S3x544, .f32⟩
  | .hbm, ⟨21, _⟩ => ⟨S3x543, .f32⟩
  | .hbm, ⟨22, _⟩ => ⟨S3x544, .f32⟩
  | .hbm, ⟨23, _⟩ => ⟨S3x543, .f32⟩
  | .hbm, ⟨24, _⟩ => ⟨S543x3, .f32⟩
  | .hbm, ⟨25, _⟩ => ⟨S1629, .f32⟩
  | .hbm, ⟨26, _⟩ => ⟨S543x3, .f32⟩
  | .hbm, ⟨27, _⟩ => ⟨S1629, .f32⟩
  | .hbm, ⟨28, _⟩ => ⟨S3258, .f32⟩
  | .hbm, ⟨29, _⟩ => ⟨S1x3258, .f32⟩
  | .local .tc .vmem, ⟨0, _⟩ => ⟨S3x8x16384, .f32⟩
  | .local .tc .vmem, ⟨1, _⟩ => ⟨S3x8x16384, .f32⟩
  | .local .tc .vmem, ⟨2, _⟩ => ⟨S1x3x8, .f32⟩
  | .local .tc .vmem, ⟨3, _⟩ => ⟨S1x3x8, .f32⟩
  | .local .tc .vmem, ⟨4, _⟩ => ⟨S1x3x8, .f32⟩
  | .local .tc .vmem, ⟨5, _⟩ => ⟨S1x3x8, .f32⟩
  | .local .tc .vmem, ⟨6, _⟩ => ⟨S132x2048, .f32⟩
  | .local .tc .vmem, ⟨7, _⟩ => ⟨S24x3x8, .f32⟩
  | .local .tc .vmem, ⟨8, _⟩ => ⟨S24x3x8, .f32⟩
  | .local .tc .vmem, ⟨9, _⟩ => ⟨S132x16, .f32⟩
  | .local .tc .vmem, ⟨10, _⟩ => ⟨S72x16, .f32⟩
  | .local .scVector .vmem, ⟨0, _⟩ => ⟨S3x8x2048, .f32⟩
  | .local .scVector .vmem, ⟨1, _⟩ => ⟨S8448, .f32⟩
  | _, _ => ⟨S16384x543x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3_0 : Ref sig .tc := ⟨.hbm, 4, rfl⟩
abbrev main_v3_1 : Ref sig .tc := ⟨.hbm, 5, rfl⟩
abbrev main_v4_0 : Ref sig .tc := ⟨.hbm, 6, rfl⟩
abbrev main_v4_1 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v0_scv : Ref sig .scVector := ⟨.hbm, 1, rfl⟩
abbrev main_v1_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg3_0 : Ref sig .tc := ⟨.vmem, 9, rfl⟩
abbrev cc2_stg4_0 : Ref sig .tc := ⟨.vmem, 10, rfl⟩
abbrev cc0_scratch0 : Ref sig .scVector := ⟨.vmem, 0, rfl⟩
abbrev cc0_scratch1 : Ref sig .scVector := ⟨.vmem, 1, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc2_sem3_0 : DmaSem sig := 13
abbrev cc2_sem4_0 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c33_i32 : BitVec 32 := 33#32
  let v2 : BitVec 32 := Scalar.muli v1 c33_i32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c352_i32 : BitVec 32 := 352#32
  let c0_i32_2 : BitVec 32 := 0#32
  let v10 : BitVec 1 := Scalar.cmpi .sgt c352_i32 c0_i32_2
  let v11 : BitVec 32 := Scalar.extui v10
  let c0_i32_3 : BitVec 32 := 0#32
  let v12 : BitVec 1 := Scalar.cmpi .slt c352_i32 c0_i32_3
  let v13 : BitVec 32 := Scalar.extui v12
  let v14 : BitVec 32 := Scalar.subi v11 v13
  let v15 : BitVec 1 := Scalar.cmpi .ne v9 v14
  let v16 : BitVec 32 := Scalar.remsi v3 c352_i32
  let c0_i32_4 : BitVec 32 := 0#32
  let v17 : BitVec 1 := Scalar.cmpi .ne v16 c0_i32_4
  let v18 : BitVec 1 := Scalar.andi v15 v17
  let v4 : BitVec 32 := Scalar.divsi v3 c352_i32
  let c1_i32 : BitVec 32 := 1#32
  let v19 : BitVec 32 := Scalar.subi v4 c1_i32
  let v20 : BitVec 32 := Scalar.select v18 v19 v4
  let c352_i32_5 : BitVec 32 := 352#32
  let c0_i32_6 : BitVec 32 := 0#32
  let v21 : BitVec 1 := Scalar.cmpi .eq c352_i32_5 c0_i32_6
  let c1_i32_7 : BitVec 32 := 1#32
  let v22 : BitVec 32 := Scalar.select v21 c1_i32_7 c352_i32_5
  let v23 : BitVec 32 := Scalar.remsi v3 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c0_i32_11 : BitVec 32 := 0#32
  let v32 : BitVec 1 := Scalar.cmpi .sgt v30 c0_i32_11
  let v33 : BitVec 32 := Scalar.extui v32
  let c0_i32_12 : BitVec 32 := 0#32
  let v34 : BitVec 1 := Scalar.cmpi .slt v30 c0_i32_12
  let v35 : BitVec 32 := Scalar.extui v34
  let v36 : BitVec 32 := Scalar.subi v33 v35
  let c8_i32 : BitVec 32 := 8#32
  let c0_i32_13 : BitVec 32 := 0#32
  let v37 : BitVec 1 := Scalar.cmpi .sgt c8_i32 c0_i32_13
  let v38 : BitVec 32 := Scalar.extui v37
  let c0_i32_14 : BitVec 32 := 0#32
  let v39 : BitVec 1 := Scalar.cmpi .slt c8_i32 c0_i32_14
  let v40 : BitVec 32 := Scalar.extui v39
  let v41 : BitVec 32 := Scalar.subi v38 v40
  let v42 : BitVec 1 := Scalar.cmpi .ne v36 v41
  let v43 : BitVec 32 := Scalar.remsi v30 c8_i32
  let c0_i32_15 : BitVec 32 := 0#32
  let v44 : BitVec 1 := Scalar.cmpi .ne v43 c0_i32_15
  let v45 : BitVec 1 := Scalar.andi v42 v44
  let v31 : BitVec 32 := Scalar.divsi v30 c8_i32
  let c1_i32_16 : BitVec 32 := 1#32
  let v46 : BitVec 32 := Scalar.subi v31 c1_i32_16
  let v47 : BitVec 32 := Scalar.select v45 v46 v31
  let c8_i32_23 : BitVec 32 := 8#32
  let v58 : BitVec 32 := Scalar.muli v47 c8_i32_23
  let c8_i32_17 : BitVec 32 := 8#32
  let c0_i32_18 : BitVec 32 := 0#32
  let v48 : BitVec 1 := Scalar.cmpi .eq c8_i32_17 c0_i32_18
  let c1_i32_19 : BitVec 32 := 1#32
  let v49 : BitVec 32 := Scalar.select v48 c1_i32_19 c8_i32_17
  let v50 : BitVec 32 := Scalar.remsi v30 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2048_i32 : BitVec 32 := 2048#32
  let v59 : BitVec 32 := Scalar.muli v57 c2048_i32
  ![v20.toNat, v58.toNat, v59.toNat]
@[reducible] def k0_t1_loop : Scf.Loop 32 :=
  let c0_i32_64 : BitVec 32 := 0#32
  let c11_i32 : BitVec 32 := 11#32
  let v133 : BitVec 32 := Scalar.addi c0_i32_64 c11_i32
  let c1_i32_65 : BitVec 32 := 1#32
  ⟨c0_i32_64, v133, c1_i32_65⟩
def k0_cond1 (k0_t1 : Fin k0_t1_loop.trips) : BitVec 1 :=
  let c0_i32_64 : BitVec 32 := 0#32
  let c1_i32_65 : BitVec 32 := 1#32
  let arg9 : BitVec 32 := Scf.iv c0_i32_64 c1_i32_65 k0_t1
  let c3_i32 : BitVec 32 := 3#32
  let v136 : BitVec 32 := Scalar.muli arg9 c3_i32
  let c0_i32_67 : BitVec 32 := 0#32
  let v137 : BitVec 32 := Scalar.addi v136 c0_i32_67
  let c2_i32_68 : BitVec 32 := 2#32
  let v138 : BitVec 32 := Scalar.addi v137 c2_i32_68
  let c33_i32_69 : BitVec 32 := 33#32
  let v139 : BitVec 1 := Scalar.cmpi .slt v138 c33_i32_69
  let v140 : BitVec 32 := Scalar.extui v139
  let c0_i32_70 : BitVec 32 := 0#32
  let v141 : BitVec 1 := Scalar.cmpi .ne v140 c0_i32_70
  v141

def k0_off2 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c33_i32 : BitVec 32 := 33#32
  let v2 : BitVec 32 := Scalar.muli v1 c33_i32
  let c0_i32_64 : BitVec 32 := 0#32
  let c1_i32_65 : BitVec 32 := 1#32
  let arg9 : BitVec 32 := Scf.iv c0_i32_64 c1_i32_65 k0_t1
  let c3_i32 : BitVec 32 := 3#32
  let v136 : BitVec 32 := Scalar.muli arg9 c3_i32
  let c0_i32_67 : BitVec 32 := 0#32
  let v137 : BitVec 32 := Scalar.addi v136 c0_i32_67
  let c2_i32_239 : BitVec 32 := 2#32
  let v497 : BitVec 32 := Scalar.addi v137 c2_i32_239
  let v498 : BitVec 32 := Scalar.addi v2 v497
  let c0_i32_241 : BitVec 32 := 0#32
  let v500 : BitVec 1 := Scalar.cmpi .sgt v498 c0_i32_241
  let v501 : BitVec 32 := Scalar.extui v500
  let c0_i32_242 : BitVec 32 := 0#32
  let v502 : BitVec 1 := Scalar.cmpi .slt v498 c0_i32_242
  let v503 : BitVec 32 := Scalar.extui v502
  let v504 : BitVec 32 := Scalar.subi v501 v503
  let c352_i32_240 : BitVec 32 := 352#32
  let c0_i32_243 : BitVec 32 := 0#32
  let v505 : BitVec 1 := Scalar.cmpi .sgt c352_i32_240 c0_i32_243
  let v506 : BitVec 32 := Scalar.extui v505
  let c0_i32_244 : BitVec 32 := 0#32
  let v507 : BitVec 1 := Scalar.cmpi .slt c352_i32_240 c0_i32_244
  let v508 : BitVec 32 := Scalar.extui v507
  let v509 : BitVec 32 := Scalar.subi v506 v508
  let v510 : BitVec 1 := Scalar.cmpi .ne v504 v509
  let v511 : BitVec 32 := Scalar.remsi v498 c352_i32_240
  let c0_i32_245 : BitVec 32 := 0#32
  let v512 : BitVec 1 := Scalar.cmpi .ne v511 c0_i32_245
  let v513 : BitVec 1 := Scalar.andi v510 v512
  let v499 : BitVec 32 := Scalar.divsi v498 c352_i32_240
  let c1_i32_246 : BitVec 32 := 1#32
  let v514 : BitVec 32 := Scalar.subi v499 c1_i32_246
  let v515 : BitVec 32 := Scalar.select v513 v514 v499
  let c352_i32_247 : BitVec 32 := 352#32
  let c0_i32_248 : BitVec 32 := 0#32
  let v516 : BitVec 1 := Scalar.cmpi .eq c352_i32_247 c0_i32_248
  let c1_i32_249 : BitVec 32 := 1#32
  let v517 : BitVec 32 := Scalar.select v516 c1_i32_249 c352_i32_247
  let v518 : BitVec 32 := Scalar.remsi v498 v517
  let c0_i32_251 : BitVec 32 := 0#32
  let v520 : BitVec 1 := Scalar.cmpi .slt v518 c0_i32_251
  let c0_i32_252 : BitVec 32 := 0#32
  let v521 : BitVec 1 := Scalar.cmpi .slt v517 c0_i32_252
  let v522 : BitVec 1 := Scalar.xori v520 v521
  let c0_i32_250 : BitVec 32 := 0#32
  let v519 : BitVec 1 := Scalar.cmpi .ne v518 c0_i32_250
  let v523 : BitVec 1 := Scalar.andi v522 v519
  let v524 : BitVec 32 := Scalar.addi v518 v517
  let v525 : BitVec 32 := Scalar.select v523 v524 v518
  let c0_i32_254 : BitVec 32 := 0#32
  let v527 : BitVec 1 := Scalar.cmpi .sgt v525 c0_i32_254
  let v528 : BitVec 32 := Scalar.extui v527
  let c0_i32_255 : BitVec 32 := 0#32
  let v529 : BitVec 1 := Scalar.cmpi .slt v525 c0_i32_255
  let v530 : BitVec 32 := Scalar.extui v529
  let v531 : BitVec 32 := Scalar.subi v528 v530
  let c8_i32_253 : BitVec 32 := 8#32
  let c0_i32_256 : BitVec 32 := 0#32
  let v532 : BitVec 1 := Scalar.cmpi .sgt c8_i32_253 c0_i32_256
  let v533 : BitVec 32 := Scalar.extui v532
  let c0_i32_257 : BitVec 32 := 0#32
  let v534 : BitVec 1 := Scalar.cmpi .slt c8_i32_253 c0_i32_257
  let v535 : BitVec 32 := Scalar.extui v534
  let v536 : BitVec 32 := Scalar.subi v533 v535
  let v537 : BitVec 1 := Scalar.cmpi .ne v531 v536
  let v538 : BitVec 32 := Scalar.remsi v525 c8_i32_253
  let c0_i32_258 : BitVec 32 := 0#32
  let v539 : BitVec 1 := Scalar.cmpi .ne v538 c0_i32_258
  let v540 : BitVec 1 := Scalar.andi v537 v539
  let v526 : BitVec 32 := Scalar.divsi v525 c8_i32_253
  let c1_i32_259 : BitVec 32 := 1#32
  let v541 : BitVec 32 := Scalar.subi v526 c1_i32_259
  let v542 : BitVec 32 := Scalar.select v540 v541 v526
  let c8_i32_266 : BitVec 32 := 8#32
  let v553 : BitVec 32 := Scalar.muli v542 c8_i32_266
  let c8_i32_260 : BitVec 32 := 8#32
  let c0_i32_261 : BitVec 32 := 0#32
  let v543 : BitVec 1 := Scalar.cmpi .eq c8_i32_260 c0_i32_261
  let c1_i32_262 : BitVec 32 := 1#32
  let v544 : BitVec 32 := Scalar.select v543 c1_i32_262 c8_i32_260
  let v545 : BitVec 32 := Scalar.remsi v525 v544
  let c0_i32_264 : BitVec 32 := 0#32
  let v547 : BitVec 1 := Scalar.cmpi .slt v545 c0_i32_264
  let c0_i32_265 : BitVec 32 := 0#32
  let v548 : BitVec 1 := Scalar.cmpi .slt v544 c0_i32_265
  let v549 : BitVec 1 := Scalar.xori v547 v548
  let c0_i32_263 : BitVec 32 := 0#32
  let v546 : BitVec 1 := Scalar.cmpi .ne v545 c0_i32_263
  let v550 : BitVec 1 := Scalar.andi v549 v546
  let v551 : BitVec 32 := Scalar.addi v545 v544
  let v552 : BitVec 32 := Scalar.select v550 v551 v545
  let c2048_i32_267 : BitVec 32 := 2048#32
  let v554 : BitVec 32 := Scalar.muli v552 c2048_i32_267
  ![v515.toNat, v553.toNat, v554.toNat]
@[reducible] def k0_t2_loop : Scf.Loop 32 :=
  let c0_i32_82 : BitVec 32 := 0#32
  let c64_i32 : BitVec 32 := 64#32
  let v151 : BitVec 32 := Scalar.addi c0_i32_82 c64_i32
  let c1_i32_83 : BitVec 32 := 1#32
  ⟨c0_i32_82, v151, c1_i32_83⟩
def k0_off3 (k0_t2 : Fin k0_t2_loop.trips) (c0_i32_240 : BitVec 32) : Fin 2 → Nat :=
  let c0_i32_242 : BitVec 32 := 0#32
  let v502 : Index := Scalar.indexCast c0_i32_242
  let c0_i32_82 : BitVec 32 := 0#32
  let c1_i32_83 : BitVec 32 := 1#32
  let arg11 : BitVec 32 := Scf.iv c0_i32_82 c1_i32_83 k0_t2
  let c2_i32_239 : BitVec 32 := 2#32
  let v497 : BitVec 32 := Scalar.muli arg11 c2_i32_239
  let v498 : BitVec 32 := Scalar.addi v497 c0_i32_240
  let c16_i32_241 : BitVec 32 := 16#32
  let v499 : BitVec 32 := Scalar.muli v498 c16_i32_241
  let v503 : Index := Scalar.indexCast v499
  ![0, v503.toNat]
def k0_off4 (k0_t2 : Fin k0_t2_loop.trips) (c0_i32_246 : BitVec 32) : Fin 2 → Nat :=
  let c1_i32_248 : BitVec 32 := 1#32
  let v514 : Index := Scalar.indexCast c1_i32_248
  let c0_i32_82 : BitVec 32 := 0#32
  let c1_i32_83 : BitVec 32 := 1#32
  let arg11 : BitVec 32 := Scf.iv c0_i32_82 c1_i32_83 k0_t2
  let c2_i32_245 : BitVec 32 := 2#32
  let v509 : BitVec 32 := Scalar.muli arg11 c2_i32_245
  let v510 : BitVec 32 := Scalar.addi v509 c0_i32_246
  let c16_i32_247 : BitVec 32 := 16#32
  let v511 : BitVec 32 := Scalar.muli v510 c16_i32_247
  let v515 : Index := Scalar.indexCast v511
  ![1, v515.toNat]
def k0_off5 (k0_t2 : Fin k0_t2_loop.trips) (c0_i32_252 : BitVec 32) : Fin 2 → Nat :=
  let c2_i32_254 : BitVec 32 := 2#32
  let v526 : Index := Scalar.indexCast c2_i32_254
  let c0_i32_82 : BitVec 32 := 0#32
  let c1_i32_83 : BitVec 32 := 1#32
  let arg11 : BitVec 32 := Scf.iv c0_i32_82 c1_i32_83 k0_t2
  let c2_i32_251 : BitVec 32 := 2#32
  let v521 : BitVec 32 := Scalar.muli arg11 c2_i32_251
  let v522 : BitVec 32 := Scalar.addi v521 c0_i32_252
  let c16_i32_253 : BitVec 32 := 16#32
  let v523 : BitVec 32 := Scalar.muli v522 c16_i32_253
  let v527 : Index := Scalar.indexCast v523
  ![2, v527.toNat]
def k0_off6 (k0_t2 : Fin k0_t2_loop.trips) (c0_i32_258 : BitVec 32) : Fin 2 → Nat :=
  let c3_i32_260 : BitVec 32 := 3#32
  let v538 : Index := Scalar.indexCast c3_i32_260
  let c0_i32_82 : BitVec 32 := 0#32
  let c1_i32_83 : BitVec 32 := 1#32
  let arg11 : BitVec 32 := Scf.iv c0_i32_82 c1_i32_83 k0_t2
  let c2_i32_257 : BitVec 32 := 2#32
  let v533 : BitVec 32 := Scalar.muli arg11 c2_i32_257
  let v534 : BitVec 32 := Scalar.addi v533 c0_i32_258
  let c16_i32_259 : BitVec 32 := 16#32
  let v535 : BitVec 32 := Scalar.muli v534 c16_i32_259
  let v539 : Index := Scalar.indexCast v535
  ![3, v539.toNat]
def k0_off7 (k0_t2 : Fin k0_t2_loop.trips) (c0_i32_264 : BitVec 32) : Fin 2 → Nat :=
  let c4_i32 : BitVec 32 := 4#32
  let v550 : Index := Scalar.indexCast c4_i32
  let c0_i32_82 : BitVec 32 := 0#32
  let c1_i32_83 : BitVec 32 := 1#32
  let arg11 : BitVec 32 := Scf.iv c0_i32_82 c1_i32_83 k0_t2
  let c2_i32_263 : BitVec 32 := 2#32
  let v545 : BitVec 32 := Scalar.muli arg11 c2_i32_263
  let v546 : BitVec 32 := Scalar.addi v545 c0_i32_264
  let c16_i32_265 : BitVec 32 := 16#32
  let v547 : BitVec 32 := Scalar.muli v546 c16_i32_265
  let v551 : Index := Scalar.indexCast v547
  ![4, v551.toNat]
def k0_off8 (k0_t2 : Fin k0_t2_loop.trips) (c0_i32_269 : BitVec 32) : Fin 2 → Nat :=
  let c5_i32 : BitVec 32 := 5#32
  let v562 : Index := Scalar.indexCast c5_i32
  let c0_i32_82 : BitVec 32 := 0#32
  let c1_i32_83 : BitVec 32 := 1#32
  let arg11 : BitVec 32 := Scf.iv c0_i32_82 c1_i32_83 k0_t2
  let c2_i32_268 : BitVec 32 := 2#32
  let v557 : BitVec 32 := Scalar.muli arg11 c2_i32_268
  let v558 : BitVec 32 := Scalar.addi v557 c0_i32_269
  let c16_i32_270 : BitVec 32 := 16#32
  let v559 : BitVec 32 := Scalar.muli v558 c16_i32_270
  let v563 : Index := Scalar.indexCast v559
  ![5, v563.toNat]
def k0_off9 (k0_t2 : Fin k0_t2_loop.trips) (c0_i32_274 : BitVec 32) : Fin 2 → Nat :=
  let c6_i32 : BitVec 32 := 6#32
  let v574 : Index := Scalar.indexCast c6_i32
  let c0_i32_82 : BitVec 32 := 0#32
  let c1_i32_83 : BitVec 32 := 1#32
  let arg11 : BitVec 32 := Scf.iv c0_i32_82 c1_i32_83 k0_t2
  let c2_i32_273 : BitVec 32 := 2#32
  let v569 : BitVec 32 := Scalar.muli arg11 c2_i32_273
  let v570 : BitVec 32 := Scalar.addi v569 c0_i32_274
  let c16_i32_275 : BitVec 32 := 16#32
  let v571 : BitVec 32 := Scalar.muli v570 c16_i32_275
  let v575 : Index := Scalar.indexCast v571
  ![6, v575.toNat]
def k0_off10 (k0_t2 : Fin k0_t2_loop.trips) (c0_i32_279 : BitVec 32) : Fin 2 → Nat :=
  let c7_i32 : BitVec 32 := 7#32
  let v586 : Index := Scalar.indexCast c7_i32
  let c0_i32_82 : BitVec 32 := 0#32
  let c1_i32_83 : BitVec 32 := 1#32
  let arg11 : BitVec 32 := Scf.iv c0_i32_82 c1_i32_83 k0_t2
  let c2_i32_278 : BitVec 32 := 2#32
  let v581 : BitVec 32 := Scalar.muli arg11 c2_i32_278
  let v582 : BitVec 32 := Scalar.addi v581 c0_i32_279
  let c16_i32_280 : BitVec 32 := 16#32
  let v583 : BitVec 32 := Scalar.muli v582 c16_i32_280
  let v587 : Index := Scalar.indexCast v583
  ![7, v587.toNat]
def k0_off11 (k0_t1 : Fin k0_t1_loop.trips) (c0_i32_67 : BitVec 32) (c0_i32_86 : BitVec 32) : Fin 1 → Nat :=
  let c0_i32_64 : BitVec 32 := 0#32
  let c1_i32_65 : BitVec 32 := 1#32
  let arg9 : BitVec 32 := Scf.iv c0_i32_64 c1_i32_65 k0_t1
  let c3_i32 : BitVec 32 := 3#32
  let v136 : BitVec 32 := Scalar.muli arg9 c3_i32
  let v137 : BitVec 32 := Scalar.addi v136 c0_i32_67
  let c256_i32_85 : BitVec 32 := 256#32
  let v153 : BitVec 32 := Scalar.muli v137 c256_i32_85
  let v154 : BitVec 32 := Scalar.addi v153 c0_i32_86
  let v155 : Index := Scalar.indexCast v154
  ![v155.toNat]
def k0_off12 (k0_t1 : Fin k0_t1_loop.trips) (c0_i32_67 : BitVec 32) (c0_i32_88 : BitVec 32) : Fin 1 → Nat :=
  let c0_i32_64 : BitVec 32 := 0#32
  let c1_i32_65 : BitVec 32 := 1#32
  let arg9 : BitVec 32 := Scf.iv c0_i32_64 c1_i32_65 k0_t1
  let c3_i32 : BitVec 32 := 3#32
  let v136 : BitVec 32 := Scalar.muli arg9 c3_i32
  let v137 : BitVec 32 := Scalar.addi v136 c0_i32_67
  let c256_i32_87 : BitVec 32 := 256#32
  let v159 : BitVec 32 := Scalar.muli v137 c256_i32_87
  let c128_i32 : BitVec 32 := 128#32
  let v160 : BitVec 32 := Scalar.addi v159 c128_i32
  let v161 : BitVec 32 := Scalar.addi v160 c0_i32_88
  let v162 : Index := Scalar.indexCast v161
  ![v162.toNat]
def k0_cond2 (k0_t1 : Fin k0_t1_loop.trips) : BitVec 1 :=
  let c0_i32_64 : BitVec 32 := 0#32
  let c1_i32_65 : BitVec 32 := 1#32
  let arg9 : BitVec 32 := Scf.iv c0_i32_64 c1_i32_65 k0_t1
  let c3_i32 : BitVec 32 := 3#32
  let v136 : BitVec 32 := Scalar.muli arg9 c3_i32
  let c1_i32_118 : BitVec 32 := 1#32
  let v257 : BitVec 32 := Scalar.addi v136 c1_i32_118
  let c2_i32_119 : BitVec 32 := 2#32
  let v258 : BitVec 32 := Scalar.addi v257 c2_i32_119
  let c33_i32_120 : BitVec 32 := 33#32
  let v259 : BitVec 1 := Scalar.cmpi .slt v258 c33_i32_120
  let v260 : BitVec 32 := Scalar.extui v259
  let c0_i32_121 : BitVec 32 := 0#32
  let v261 : BitVec 1 := Scalar.cmpi .ne v260 c0_i32_121
  v261

def k0_off13 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c33_i32 : BitVec 32 := 33#32
  let v2 : BitVec 32 := Scalar.muli v1 c33_i32
  let c0_i32_64 : BitVec 32 := 0#32
  let c1_i32_65 : BitVec 32 := 1#32
  let arg9 : BitVec 32 := Scf.iv c0_i32_64 c1_i32_65 k0_t1
  let c3_i32 : BitVec 32 := 3#32
  let v136 : BitVec 32 := Scalar.muli arg9 c3_i32
  let c1_i32_118 : BitVec 32 := 1#32
  let v257 : BitVec 32 := Scalar.addi v136 c1_i32_118
  let c2_i32_239 : BitVec 32 := 2#32
  let v497 : BitVec 32 := Scalar.addi v257 c2_i32_239
  let v498 : BitVec 32 := Scalar.addi v2 v497
  let c0_i32_241 : BitVec 32 := 0#32
  let v500 : BitVec 1 := Scalar.cmpi .sgt v498 c0_i32_241
  let v501 : BitVec 32 := Scalar.extui v500
  let c0_i32_242 : BitVec 32 := 0#32
  let v502 : BitVec 1 := Scalar.cmpi .slt v498 c0_i32_242
  let v503 : BitVec 32 := Scalar.extui v502
  let v504 : BitVec 32 := Scalar.subi v501 v503
  let c352_i32_240 : BitVec 32 := 352#32
  let c0_i32_243 : BitVec 32 := 0#32
  let v505 : BitVec 1 := Scalar.cmpi .sgt c352_i32_240 c0_i32_243
  let v506 : BitVec 32 := Scalar.extui v505
  let c0_i32_244 : BitVec 32 := 0#32
  let v507 : BitVec 1 := Scalar.cmpi .slt c352_i32_240 c0_i32_244
  let v508 : BitVec 32 := Scalar.extui v507
  let v509 : BitVec 32 := Scalar.subi v506 v508
  let v510 : BitVec 1 := Scalar.cmpi .ne v504 v509
  let v511 : BitVec 32 := Scalar.remsi v498 c352_i32_240
  let c0_i32_245 : BitVec 32 := 0#32
  let v512 : BitVec 1 := Scalar.cmpi .ne v511 c0_i32_245
  let v513 : BitVec 1 := Scalar.andi v510 v512
  let v499 : BitVec 32 := Scalar.divsi v498 c352_i32_240
  let c1_i32_246 : BitVec 32 := 1#32
  let v514 : BitVec 32 := Scalar.subi v499 c1_i32_246
  let v515 : BitVec 32 := Scalar.select v513 v514 v499
  let c352_i32_247 : BitVec 32 := 352#32
  let c0_i32_248 : BitVec 32 := 0#32
  let v516 : BitVec 1 := Scalar.cmpi .eq c352_i32_247 c0_i32_248
  let c1_i32_249 : BitVec 32 := 1#32
  let v517 : BitVec 32 := Scalar.select v516 c1_i32_249 c352_i32_247
  let v518 : BitVec 32 := Scalar.remsi v498 v517
  let c0_i32_251 : BitVec 32 := 0#32
  let v520 : BitVec 1 := Scalar.cmpi .slt v518 c0_i32_251
  let c0_i32_252 : BitVec 32 := 0#32
  let v521 : BitVec 1 := Scalar.cmpi .slt v517 c0_i32_252
  let v522 : BitVec 1 := Scalar.xori v520 v521
  let c0_i32_250 : BitVec 32 := 0#32
  let v519 : BitVec 1 := Scalar.cmpi .ne v518 c0_i32_250
  let v523 : BitVec 1 := Scalar.andi v522 v519
  let v524 : BitVec 32 := Scalar.addi v518 v517
  let v525 : BitVec 32 := Scalar.select v523 v524 v518
  let c0_i32_254 : BitVec 32 := 0#32
  let v527 : BitVec 1 := Scalar.cmpi .sgt v525 c0_i32_254
  let v528 : BitVec 32 := Scalar.extui v527
  let c0_i32_255 : BitVec 32 := 0#32
  let v529 : BitVec 1 := Scalar.cmpi .slt v525 c0_i32_255
  let v530 : BitVec 32 := Scalar.extui v529
  let v531 : BitVec 32 := Scalar.subi v528 v530
  let c8_i32_253 : BitVec 32 := 8#32
  let c0_i32_256 : BitVec 32 := 0#32
  let v532 : BitVec 1 := Scalar.cmpi .sgt c8_i32_253 c0_i32_256
  let v533 : BitVec 32 := Scalar.extui v532
  let c0_i32_257 : BitVec 32 := 0#32
  let v534 : BitVec 1 := Scalar.cmpi .slt c8_i32_253 c0_i32_257
  let v535 : BitVec 32 := Scalar.extui v534
  let v536 : BitVec 32 := Scalar.subi v533 v535
  let v537 : BitVec 1 := Scalar.cmpi .ne v531 v536
  let v538 : BitVec 32 := Scalar.remsi v525 c8_i32_253
  let c0_i32_258 : BitVec 32 := 0#32
  let v539 : BitVec 1 := Scalar.cmpi .ne v538 c0_i32_258
  let v540 : BitVec 1 := Scalar.andi v537 v539
  let v526 : BitVec 32 := Scalar.divsi v525 c8_i32_253
  let c1_i32_259 : BitVec 32 := 1#32
  let v541 : BitVec 32 := Scalar.subi v526 c1_i32_259
  let v542 : BitVec 32 := Scalar.select v540 v541 v526
  let c8_i32_266 : BitVec 32 := 8#32
  let v553 : BitVec 32 := Scalar.muli v542 c8_i32_266
  let c8_i32_260 : BitVec 32 := 8#32
  let c0_i32_261 : BitVec 32 := 0#32
  let v543 : BitVec 1 := Scalar.cmpi .eq c8_i32_260 c0_i32_261
  let c1_i32_262 : BitVec 32 := 1#32
  let v544 : BitVec 32 := Scalar.select v543 c1_i32_262 c8_i32_260
  let v545 : BitVec 32 := Scalar.remsi v525 v544
  let c0_i32_264 : BitVec 32 := 0#32
  let v547 : BitVec 1 := Scalar.cmpi .slt v545 c0_i32_264
  let c0_i32_265 : BitVec 32 := 0#32
  let v548 : BitVec 1 := Scalar.cmpi .slt v544 c0_i32_265
  let v549 : BitVec 1 := Scalar.xori v547 v548
  let c0_i32_263 : BitVec 32 := 0#32
  let v546 : BitVec 1 := Scalar.cmpi .ne v545 c0_i32_263
  let v550 : BitVec 1 := Scalar.andi v549 v546
  let v551 : BitVec 32 := Scalar.addi v545 v544
  let v552 : BitVec 32 := Scalar.select v550 v551 v545
  let c2048_i32_267 : BitVec 32 := 2048#32
  let v554 : BitVec 32 := Scalar.muli v552 c2048_i32_267
  ![v515.toNat, v553.toNat, v554.toNat]
@[reducible] def k0_t3_loop : Scf.Loop 32 :=
  let c0_i32_134 : BitVec 32 := 0#32
  let c64_i32_135 : BitVec 32 := 64#32
  let v271 : BitVec 32 := Scalar.addi c0_i32_134 c64_i32_135
  let c1_i32_136 : BitVec 32 := 1#32
  ⟨c0_i32_134, v271, c1_i32_136⟩
def k0_off14 (k0_t3 : Fin k0_t3_loop.trips) (c0_i32_240 : BitVec 32) : Fin 2 → Nat :=
  let c0_i32_242 : BitVec 32 := 0#32
  let v502 : Index := Scalar.indexCast c0_i32_242
  let c0_i32_134 : BitVec 32 := 0#32
  let c1_i32_136 : BitVec 32 := 1#32
  let arg11 : BitVec 32 := Scf.iv c0_i32_134 c1_i32_136 k0_t3
  let c2_i32_239 : BitVec 32 := 2#32
  let v497 : BitVec 32 := Scalar.muli arg11 c2_i32_239
  let v498 : BitVec 32 := Scalar.addi v497 c0_i32_240
  let c16_i32_241 : BitVec 32 := 16#32
  let v499 : BitVec 32 := Scalar.muli v498 c16_i32_241
  let v503 : Index := Scalar.indexCast v499
  ![0, v503.toNat]
def k0_off15 (k0_t3 : Fin k0_t3_loop.trips) (c0_i32_246 : BitVec 32) : Fin 2 → Nat :=
  let c1_i32_248 : BitVec 32 := 1#32
  let v514 : Index := Scalar.indexCast c1_i32_248
  let c0_i32_134 : BitVec 32 := 0#32
  let c1_i32_136 : BitVec 32 := 1#32
  let arg11 : BitVec 32 := Scf.iv c0_i32_134 c1_i32_136 k0_t3
  let c2_i32_245 : BitVec 32 := 2#32
  let v509 : BitVec 32 := Scalar.muli arg11 c2_i32_245
  let v510 : BitVec 32 := Scalar.addi v509 c0_i32_246
  let c16_i32_247 : BitVec 32 := 16#32
  let v511 : BitVec 32 := Scalar.muli v510 c16_i32_247
  let v515 : Index := Scalar.indexCast v511
  ![1, v515.toNat]
def k0_off16 (k0_t3 : Fin k0_t3_loop.trips) (c0_i32_252 : BitVec 32) : Fin 2 → Nat :=
  let c2_i32_254 : BitVec 32 := 2#32
  let v526 : Index := Scalar.indexCast c2_i32_254
  let c0_i32_134 : BitVec 32 := 0#32
  let c1_i32_136 : BitVec 32 := 1#32
  let arg11 : BitVec 32 := Scf.iv c0_i32_134 c1_i32_136 k0_t3
  let c2_i32_251 : BitVec 32 := 2#32
  let v521 : BitVec 32 := Scalar.muli arg11 c2_i32_251
  let v522 : BitVec 32 := Scalar.addi v521 c0_i32_252
  let c16_i32_253 : BitVec 32 := 16#32
  let v523 : BitVec 32 := Scalar.muli v522 c16_i32_253
  let v527 : Index := Scalar.indexCast v523
  ![2, v527.toNat]
def k0_off17 (k0_t3 : Fin k0_t3_loop.trips) (c0_i32_258 : BitVec 32) : Fin 2 → Nat :=
  let c3_i32_260 : BitVec 32 := 3#32
  let v538 : Index := Scalar.indexCast c3_i32_260
  let c0_i32_134 : BitVec 32 := 0#32
  let c1_i32_136 : BitVec 32 := 1#32
  let arg11 : BitVec 32 := Scf.iv c0_i32_134 c1_i32_136 k0_t3
  let c2_i32_257 : BitVec 32 := 2#32
  let v533 : BitVec 32 := Scalar.muli arg11 c2_i32_257
  let v534 : BitVec 32 := Scalar.addi v533 c0_i32_258
  let c16_i32_259 : BitVec 32 := 16#32
  let v535 : BitVec 32 := Scalar.muli v534 c16_i32_259
  let v539 : Index := Scalar.indexCast v535
  ![3, v539.toNat]
def k0_off18 (k0_t3 : Fin k0_t3_loop.trips) (c0_i32_264 : BitVec 32) : Fin 2 → Nat :=
  let c4_i32 : BitVec 32 := 4#32
  let v550 : Index := Scalar.indexCast c4_i32
  let c0_i32_134 : BitVec 32 := 0#32
  let c1_i32_136 : BitVec 32 := 1#32
  let arg11 : BitVec 32 := Scf.iv c0_i32_134 c1_i32_136 k0_t3
  let c2_i32_263 : BitVec 32 := 2#32
  let v545 : BitVec 32 := Scalar.muli arg11 c2_i32_263
  let v546 : BitVec 32 := Scalar.addi v545 c0_i32_264
  let c16_i32_265 : BitVec 32 := 16#32
  let v547 : BitVec 32 := Scalar.muli v546 c16_i32_265
  let v551 : Index := Scalar.indexCast v547
  ![4, v551.toNat]
def k0_off19 (k0_t3 : Fin k0_t3_loop.trips) (c0_i32_269 : BitVec 32) : Fin 2 → Nat :=
  let c5_i32 : BitVec 32 := 5#32
  let v562 : Index := Scalar.indexCast c5_i32
  let c0_i32_134 : BitVec 32 := 0#32
  let c1_i32_136 : BitVec 32 := 1#32
  let arg11 : BitVec 32 := Scf.iv c0_i32_134 c1_i32_136 k0_t3
  let c2_i32_268 : BitVec 32 := 2#32
  let v557 : BitVec 32 := Scalar.muli arg11 c2_i32_268
  let v558 : BitVec 32 := Scalar.addi v557 c0_i32_269
  let c16_i32_270 : BitVec 32 := 16#32
  let v559 : BitVec 32 := Scalar.muli v558 c16_i32_270
  let v563 : Index := Scalar.indexCast v559
  ![5, v563.toNat]
def k0_off20 (k0_t3 : Fin k0_t3_loop.trips) (c0_i32_274 : BitVec 32) : Fin 2 → Nat :=
  let c6_i32 : BitVec 32 := 6#32
  let v574 : Index := Scalar.indexCast c6_i32
  let c0_i32_134 : BitVec 32 := 0#32
  let c1_i32_136 : BitVec 32 := 1#32
  let arg11 : BitVec 32 := Scf.iv c0_i32_134 c1_i32_136 k0_t3
  let c2_i32_273 : BitVec 32 := 2#32
  let v569 : BitVec 32 := Scalar.muli arg11 c2_i32_273
  let v570 : BitVec 32 := Scalar.addi v569 c0_i32_274
  let c16_i32_275 : BitVec 32 := 16#32
  let v571 : BitVec 32 := Scalar.muli v570 c16_i32_275
  let v575 : Index := Scalar.indexCast v571
  ![6, v575.toNat]
def k0_off21 (k0_t3 : Fin k0_t3_loop.trips) (c0_i32_279 : BitVec 32) : Fin 2 → Nat :=
  let c7_i32 : BitVec 32 := 7#32
  let v586 : Index := Scalar.indexCast c7_i32
  let c0_i32_134 : BitVec 32 := 0#32
  let c1_i32_136 : BitVec 32 := 1#32
  let arg11 : BitVec 32 := Scf.iv c0_i32_134 c1_i32_136 k0_t3
  let c2_i32_278 : BitVec 32 := 2#32
  let v581 : BitVec 32 := Scalar.muli arg11 c2_i32_278
  let v582 : BitVec 32 := Scalar.addi v581 c0_i32_279
  let c16_i32_280 : BitVec 32 := 16#32
  let v583 : BitVec 32 := Scalar.muli v582 c16_i32_280
  let v587 : Index := Scalar.indexCast v583
  ![7, v587.toNat]
def k0_cond3 (k0_t1 : Fin k0_t1_loop.trips) : BitVec 1 :=
  let c0_i32_64 : BitVec 32 := 0#32
  let c1_i32_65 : BitVec 32 := 1#32
  let arg9 : BitVec 32 := Scf.iv c0_i32_64 c1_i32_65 k0_t1
  let c3_i32 : BitVec 32 := 3#32
  let v136 : BitVec 32 := Scalar.muli arg9 c3_i32
  let c2_i32_178 : BitVec 32 := 2#32
  let v377 : BitVec 32 := Scalar.addi v136 c2_i32_178
  let c2_i32_179 : BitVec 32 := 2#32
  let v378 : BitVec 32 := Scalar.addi v377 c2_i32_179
  let c33_i32_180 : BitVec 32 := 33#32
  let v379 : BitVec 1 := Scalar.cmpi .slt v378 c33_i32_180
  let v380 : BitVec 32 := Scalar.extui v379
  let c0_i32_181 : BitVec 32 := 0#32
  let v381 : BitVec 1 := Scalar.cmpi .ne v380 c0_i32_181
  v381

def k0_off22 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c33_i32 : BitVec 32 := 33#32
  let v2 : BitVec 32 := Scalar.muli v1 c33_i32
  let c0_i32_64 : BitVec 32 := 0#32
  let c1_i32_65 : BitVec 32 := 1#32
  let arg9 : BitVec 32 := Scf.iv c0_i32_64 c1_i32_65 k0_t1
  let c3_i32 : BitVec 32 := 3#32
  let v136 : BitVec 32 := Scalar.muli arg9 c3_i32
  let c2_i32_178 : BitVec 32 := 2#32
  let v377 : BitVec 32 := Scalar.addi v136 c2_i32_178
  let c2_i32_239 : BitVec 32 := 2#32
  let v497 : BitVec 32 := Scalar.addi v377 c2_i32_239
  let v498 : BitVec 32 := Scalar.addi v2 v497
  let c0_i32_241 : BitVec 32 := 0#32
  let v500 : BitVec 1 := Scalar.cmpi .sgt v498 c0_i32_241
  let v501 : BitVec 32 := Scalar.extui v500
  let c0_i32_242 : BitVec 32 := 0#32
  let v502 : BitVec 1 := Scalar.cmpi .slt v498 c0_i32_242
  let v503 : BitVec 32 := Scalar.extui v502
  let v504 : BitVec 32 := Scalar.subi v501 v503
  let c352_i32_240 : BitVec 32 := 352#32
  let c0_i32_243 : BitVec 32 := 0#32
  let v505 : BitVec 1 := Scalar.cmpi .sgt c352_i32_240 c0_i32_243
  let v506 : BitVec 32 := Scalar.extui v505
  let c0_i32_244 : BitVec 32 := 0#32
  let v507 : BitVec 1 := Scalar.cmpi .slt c352_i32_240 c0_i32_244
  let v508 : BitVec 32 := Scalar.extui v507
  let v509 : BitVec 32 := Scalar.subi v506 v508
  let v510 : BitVec 1 := Scalar.cmpi .ne v504 v509
  let v511 : BitVec 32 := Scalar.remsi v498 c352_i32_240
  let c0_i32_245 : BitVec 32 := 0#32
  let v512 : BitVec 1 := Scalar.cmpi .ne v511 c0_i32_245
  let v513 : BitVec 1 := Scalar.andi v510 v512
  let v499 : BitVec 32 := Scalar.divsi v498 c352_i32_240
  let c1_i32_246 : BitVec 32 := 1#32
  let v514 : BitVec 32 := Scalar.subi v499 c1_i32_246
  let v515 : BitVec 32 := Scalar.select v513 v514 v499
  let c352_i32_247 : BitVec 32 := 352#32
  let c0_i32_248 : BitVec 32 := 0#32
  let v516 : BitVec 1 := Scalar.cmpi .eq c352_i32_247 c0_i32_248
  let c1_i32_249 : BitVec 32 := 1#32
  let v517 : BitVec 32 := Scalar.select v516 c1_i32_249 c352_i32_247
  let v518 : BitVec 32 := Scalar.remsi v498 v517
  let c0_i32_251 : BitVec 32 := 0#32
  let v520 : BitVec 1 := Scalar.cmpi .slt v518 c0_i32_251
  let c0_i32_252 : BitVec 32 := 0#32
  let v521 : BitVec 1 := Scalar.cmpi .slt v517 c0_i32_252
  let v522 : BitVec 1 := Scalar.xori v520 v521
  let c0_i32_250 : BitVec 32 := 0#32
  let v519 : BitVec 1 := Scalar.cmpi .ne v518 c0_i32_250
  let v523 : BitVec 1 := Scalar.andi v522 v519
  let v524 : BitVec 32 := Scalar.addi v518 v517
  let v525 : BitVec 32 := Scalar.select v523 v524 v518
  let c0_i32_254 : BitVec 32 := 0#32
  let v527 : BitVec 1 := Scalar.cmpi .sgt v525 c0_i32_254
  let v528 : BitVec 32 := Scalar.extui v527
  let c0_i32_255 : BitVec 32 := 0#32
  let v529 : BitVec 1 := Scalar.cmpi .slt v525 c0_i32_255
  let v530 : BitVec 32 := Scalar.extui v529
  let v531 : BitVec 32 := Scalar.subi v528 v530
  let c8_i32_253 : BitVec 32 := 8#32
  let c0_i32_256 : BitVec 32 := 0#32
  let v532 : BitVec 1 := Scalar.cmpi .sgt c8_i32_253 c0_i32_256
  let v533 : BitVec 32 := Scalar.extui v532
  let c0_i32_257 : BitVec 32 := 0#32
  let v534 : BitVec 1 := Scalar.cmpi .slt c8_i32_253 c0_i32_257
  let v535 : BitVec 32 := Scalar.extui v534
  let v536 : BitVec 32 := Scalar.subi v533 v535
  let v537 : BitVec 1 := Scalar.cmpi .ne v531 v536
  let v538 : BitVec 32 := Scalar.remsi v525 c8_i32_253
  let c0_i32_258 : BitVec 32 := 0#32
  let v539 : BitVec 1 := Scalar.cmpi .ne v538 c0_i32_258
  let v540 : BitVec 1 := Scalar.andi v537 v539
  let v526 : BitVec 32 := Scalar.divsi v525 c8_i32_253
  let c1_i32_259 : BitVec 32 := 1#32
  let v541 : BitVec 32 := Scalar.subi v526 c1_i32_259
  let v542 : BitVec 32 := Scalar.select v540 v541 v526
  let c8_i32_266 : BitVec 32 := 8#32
  let v553 : BitVec 32 := Scalar.muli v542 c8_i32_266
  let c8_i32_260 : BitVec 32 := 8#32
  let c0_i32_261 : BitVec 32 := 0#32
  let v543 : BitVec 1 := Scalar.cmpi .eq c8_i32_260 c0_i32_261
  let c1_i32_262 : BitVec 32 := 1#32
  let v544 : BitVec 32 := Scalar.select v543 c1_i32_262 c8_i32_260
  let v545 : BitVec 32 := Scalar.remsi v525 v544
  let c0_i32_264 : BitVec 32 := 0#32
  let v547 : BitVec 1 := Scalar.cmpi .slt v545 c0_i32_264
  let c0_i32_265 : BitVec 32 := 0#32
  let v548 : BitVec 1 := Scalar.cmpi .slt v544 c0_i32_265
  let v549 : BitVec 1 := Scalar.xori v547 v548
  let c0_i32_263 : BitVec 32 := 0#32
  let v546 : BitVec 1 := Scalar.cmpi .ne v545 c0_i32_263
  let v550 : BitVec 1 := Scalar.andi v549 v546
  let v551 : BitVec 32 := Scalar.addi v545 v544
  let v552 : BitVec 32 := Scalar.select v550 v551 v545
  let c2048_i32_267 : BitVec 32 := 2048#32
  let v554 : BitVec 32 := Scalar.muli v552 c2048_i32_267
  ![v515.toNat, v553.toNat, v554.toNat]
@[reducible] def k0_t4_loop : Scf.Loop 32 :=
  let c0_i32_194 : BitVec 32 := 0#32
  let c64_i32_195 : BitVec 32 := 64#32
  let v391 : BitVec 32 := Scalar.addi c0_i32_194 c64_i32_195
  let c1_i32_196 : BitVec 32 := 1#32
  ⟨c0_i32_194, v391, c1_i32_196⟩
def k0_off23 (k0_t4 : Fin k0_t4_loop.trips) (c0_i32_240 : BitVec 32) : Fin 2 → Nat :=
  let c0_i32_242 : BitVec 32 := 0#32
  let v502 : Index := Scalar.indexCast c0_i32_242
  let c0_i32_194 : BitVec 32 := 0#32
  let c1_i32_196 : BitVec 32 := 1#32
  let arg11 : BitVec 32 := Scf.iv c0_i32_194 c1_i32_196 k0_t4
  let c2_i32_239 : BitVec 32 := 2#32
  let v497 : BitVec 32 := Scalar.muli arg11 c2_i32_239
  let v498 : BitVec 32 := Scalar.addi v497 c0_i32_240
  let c16_i32_241 : BitVec 32 := 16#32
  let v499 : BitVec 32 := Scalar.muli v498 c16_i32_241
  let v503 : Index := Scalar.indexCast v499
  ![0, v503.toNat]
def k0_off24 (k0_t4 : Fin k0_t4_loop.trips) (c0_i32_246 : BitVec 32) : Fin 2 → Nat :=
  let c1_i32_248 : BitVec 32 := 1#32
  let v514 : Index := Scalar.indexCast c1_i32_248
  let c0_i32_194 : BitVec 32 := 0#32
  let c1_i32_196 : BitVec 32 := 1#32
  let arg11 : BitVec 32 := Scf.iv c0_i32_194 c1_i32_196 k0_t4
  let c2_i32_245 : BitVec 32 := 2#32
  let v509 : BitVec 32 := Scalar.muli arg11 c2_i32_245
  let v510 : BitVec 32 := Scalar.addi v509 c0_i32_246
  let c16_i32_247 : BitVec 32 := 16#32
  let v511 : BitVec 32 := Scalar.muli v510 c16_i32_247
  let v515 : Index := Scalar.indexCast v511
  ![1, v515.toNat]
def k0_off25 (k0_t4 : Fin k0_t4_loop.trips) (c0_i32_252 : BitVec 32) : Fin 2 → Nat :=
  let c2_i32_254 : BitVec 32 := 2#32
  let v526 : Index := Scalar.indexCast c2_i32_254
  let c0_i32_194 : BitVec 32 := 0#32
  let c1_i32_196 : BitVec 32 := 1#32
  let arg11 : BitVec 32 := Scf.iv c0_i32_194 c1_i32_196 k0_t4
  let c2_i32_251 : BitVec 32 := 2#32
  let v521 : BitVec 32 := Scalar.muli arg11 c2_i32_251
  let v522 : BitVec 32 := Scalar.addi v521 c0_i32_252
  let c16_i32_253 : BitVec 32 := 16#32
  let v523 : BitVec 32 := Scalar.muli v522 c16_i32_253
  let v527 : Index := Scalar.indexCast v523
  ![2, v527.toNat]
def k0_off26 (k0_t4 : Fin k0_t4_loop.trips) (c0_i32_258 : BitVec 32) : Fin 2 → Nat :=
  let c3_i32_260 : BitVec 32 := 3#32
  let v538 : Index := Scalar.indexCast c3_i32_260
  let c0_i32_194 : BitVec 32 := 0#32
  let c1_i32_196 : BitVec 32 := 1#32
  let arg11 : BitVec 32 := Scf.iv c0_i32_194 c1_i32_196 k0_t4
  let c2_i32_257 : BitVec 32 := 2#32
  let v533 : BitVec 32 := Scalar.muli arg11 c2_i32_257
  let v534 : BitVec 32 := Scalar.addi v533 c0_i32_258
  let c16_i32_259 : BitVec 32 := 16#32
  let v535 : BitVec 32 := Scalar.muli v534 c16_i32_259
  let v539 : Index := Scalar.indexCast v535
  ![3, v539.toNat]
def k0_off27 (k0_t4 : Fin k0_t4_loop.trips) (c0_i32_264 : BitVec 32) : Fin 2 → Nat :=
  let c4_i32 : BitVec 32 := 4#32
  let v550 : Index := Scalar.indexCast c4_i32
  let c0_i32_194 : BitVec 32 := 0#32
  let c1_i32_196 : BitVec 32 := 1#32
  let arg11 : BitVec 32 := Scf.iv c0_i32_194 c1_i32_196 k0_t4
  let c2_i32_263 : BitVec 32 := 2#32
  let v545 : BitVec 32 := Scalar.muli arg11 c2_i32_263
  let v546 : BitVec 32 := Scalar.addi v545 c0_i32_264
  let c16_i32_265 : BitVec 32 := 16#32
  let v547 : BitVec 32 := Scalar.muli v546 c16_i32_265
  let v551 : Index := Scalar.indexCast v547
  ![4, v551.toNat]
def k0_off28 (k0_t4 : Fin k0_t4_loop.trips) (c0_i32_269 : BitVec 32) : Fin 2 → Nat :=
  let c5_i32 : BitVec 32 := 5#32
  let v562 : Index := Scalar.indexCast c5_i32
  let c0_i32_194 : BitVec 32 := 0#32
  let c1_i32_196 : BitVec 32 := 1#32
  let arg11 : BitVec 32 := Scf.iv c0_i32_194 c1_i32_196 k0_t4
  let c2_i32_268 : BitVec 32 := 2#32
  let v557 : BitVec 32 := Scalar.muli arg11 c2_i32_268
  let v558 : BitVec 32 := Scalar.addi v557 c0_i32_269
  let c16_i32_270 : BitVec 32 := 16#32
  let v559 : BitVec 32 := Scalar.muli v558 c16_i32_270
  let v563 : Index := Scalar.indexCast v559
  ![5, v563.toNat]
def k0_off29 (k0_t4 : Fin k0_t4_loop.trips) (c0_i32_274 : BitVec 32) : Fin 2 → Nat :=
  let c6_i32 : BitVec 32 := 6#32
  let v574 : Index := Scalar.indexCast c6_i32
  let c0_i32_194 : BitVec 32 := 0#32
  let c1_i32_196 : BitVec 32 := 1#32
  let arg11 : BitVec 32 := Scf.iv c0_i32_194 c1_i32_196 k0_t4
  let c2_i32_273 : BitVec 32 := 2#32
  let v569 : BitVec 32 := Scalar.muli arg11 c2_i32_273
  let v570 : BitVec 32 := Scalar.addi v569 c0_i32_274
  let c16_i32_275 : BitVec 32 := 16#32
  let v571 : BitVec 32 := Scalar.muli v570 c16_i32_275
  let v575 : Index := Scalar.indexCast v571
  ![6, v575.toNat]
def k0_off30 (k0_t4 : Fin k0_t4_loop.trips) (c0_i32_279 : BitVec 32) : Fin 2 → Nat :=
  let c7_i32 : BitVec 32 := 7#32
  let v586 : Index := Scalar.indexCast c7_i32
  let c0_i32_194 : BitVec 32 := 0#32
  let c1_i32_196 : BitVec 32 := 1#32
  let arg11 : BitVec 32 := Scf.iv c0_i32_194 c1_i32_196 k0_t4
  let c2_i32_278 : BitVec 32 := 2#32
  let v581 : BitVec 32 := Scalar.muli arg11 c2_i32_278
  let v582 : BitVec 32 := Scalar.addi v581 c0_i32_279
  let c16_i32_280 : BitVec 32 := 16#32
  let v583 : BitVec 32 := Scalar.muli v582 c16_i32_280
  let v587 : Index := Scalar.indexCast v583
  ![7, v587.toNat]
def k0_off31 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c33_i32 : BitVec 32 := 33#32
  let v2 : BitVec 32 := Scalar.muli v1 c33_i32
  let c256_i32 : BitVec 32 := 256#32
  let v135 : BitVec 32 := Scalar.muli v2 c256_i32
  ![v135.toNat]
abbrev grid1 : Pipeline.Grid := ⟨1, ![24], ![false]⟩

def cc1_transform_0 (i : grid1.Coords) : Fin 3 → Nat :=
  let arg0 : BitVec 32 := BitVec.ofNat 32 (i 0).val
  let c44_i32 : BitVec 32 := 44#32
  let v0 : BitVec 32 := Scalar.addi c44_i32 arg0
  let c0_i32 : BitVec 32 := 0#32
  let c0_i32_0 : BitVec 32 := 0#32
  let c0_i32_1 : BitVec 32 := 0#32
  ![c0_i32.toNat, v0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S3x8x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x3x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x3x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := .none

abbrev stage2_0 : Fin 1 → Memref sig .tc .vmem S132x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S24x3x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S24x3x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S132x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S72x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x543x3 : Shape := ⟨3, ![16384, 543, 3]⟩
abbrev S16384x468x3 : Shape := ⟨3, ![16384, 468, 3]⟩
abbrev S16384x1404 : Shape := ⟨2, ![16384, 1404]⟩
abbrev S16384x21x3 : Shape := ⟨3, ![16384, 21, 3]⟩
abbrev S16384x63 : Shape := ⟨2, ![16384, 63]⟩
abbrev S16384x33x3 : Shape := ⟨3, ![16384, 33, 3]⟩
abbrev S16384x99 : Shape := ⟨2, ![16384, 99]⟩
abbrev S_ : Shape := ⟨0, ![]⟩
abbrev S1404 : Shape := ⟨1, ![1404]⟩
abbrev S1x1404 : Shape := ⟨2, ![1, 1404]⟩
abbrev S16384 : Shape := ⟨1, ![16384]⟩
abbrev S16384x1 : Shape := ⟨2, ![16384, 1]⟩
abbrev S63 : Shape := ⟨1, ![63]⟩
abbrev S1x63 : Shape := ⟨2, ![1, 63]⟩
abbrev S99 : Shape := ⟨1, ![99]⟩
abbrev S1x99 : Shape := ⟨2, ![1, 99]⟩
abbrev S3258 : Shape := ⟨1, ![3258]⟩
abbrev S1x3258 : Shape := ⟨2, ![1, 3258]⟩

abbrev nBuf : Space → Nat
  | .hbm => 149
  | .vmem => 0
  | .smem => 0
  | _ => 0

abbrev hbmTy0_0 (i : Nat) : BufTy := match i % 128 with
  | 0 => ⟨S16384x543x3, .f32⟩
  | 1 => ⟨S16384x468x3, .f32⟩
  | 2 => ⟨S16384x1404, .f32⟩
  | 3 => ⟨S16384x21x3, .f32⟩
  | 4 => ⟨S16384x63, .f32⟩
  | 5 => ⟨S16384x33x3, .f32⟩
  | 6 => ⟨S16384x99, .f32⟩
  | 7 => ⟨S16384x21x3, .f32⟩
  | 8 => ⟨S16384x63, .f32⟩
  | 9 => ⟨S_, .f32⟩
  | 10 => ⟨S1404, .f32⟩
  | 11 => ⟨S_, .f32⟩
  | 12 => ⟨S1404, .f32⟩
  | 13 => ⟨S1404, .f32⟩
  | 14 => ⟨S_, .i32⟩
  | 15 => ⟨S_, .f32⟩
  | 16 => ⟨S1404, .f32⟩
  | 17 => ⟨S1x1404, .f32⟩
  | 18 => ⟨S_, .f32⟩
  | 19 => ⟨S1x1404, .f32⟩
  | 20 => ⟨S1x1404, .f32⟩
  | 21 => ⟨S16384x1404, .f32⟩
  | 22 => ⟨S16384x1404, .f32⟩
  | 23 => ⟨S16384x1404, .f32⟩
  | 24 => ⟨S_, .f32⟩
  | 25 => ⟨S_, .f32⟩
  | 26 => ⟨S_, .f32⟩
  | 27 => ⟨S_, .f32⟩
  | 28 => ⟨S1404, .f32⟩
  | 29 => ⟨S1404, .f32⟩
  | 30 => ⟨S1404, .f32⟩
  | 31 => ⟨S_, .f32⟩
  | 32 => ⟨S_, .i1⟩
  | 33 => ⟨S_, .f32⟩
  | 34 => ⟨S_, .f32⟩
  | 35 => ⟨S1404, .f32⟩
  | 36 => ⟨S1404, .f32⟩
  | 37 => ⟨S1404, .f32⟩
  | 38 => ⟨S16384x63, .i1⟩
  | 39 => ⟨S16384x63, .i1⟩
  | 40 => ⟨S_, .i1⟩
  | 41 => ⟨S16384, .i1⟩
  | 42 => ⟨S16384, .f32⟩
  | 43 => ⟨S_, .f32⟩
  | 44 => ⟨S_, .f32⟩
  | 45 => ⟨S16384, .f32⟩
  | 46 => ⟨S16384x1, .f32⟩
  | 47 => ⟨S16384x1, .i1⟩
  | 48 => ⟨S_, .f32⟩
  | 49 => ⟨S_, .f32⟩
  | 50 => ⟨S16384x63, .i1⟩
  | 51 => ⟨S16384x63, .f32⟩
  | 52 => ⟨S16384x63, .f32⟩
  | 53 => ⟨S_, .f32⟩
  | 54 => ⟨S63, .f32⟩
  | 55 => ⟨S63, .f32⟩
  | 56 => ⟨S63, .f32⟩
  | 57 => ⟨S16384x1, .i1⟩
  | 58 => ⟨S1x63, .f32⟩
  | 59 => ⟨S16384x63, .f32⟩
  | 60 => ⟨S16384x63, .f32⟩
  | 61 => ⟨S_, .f32⟩
  | 62 => ⟨S_, .f32⟩
  | 63 => ⟨S16384x63, .i1⟩
  | 64 => ⟨S16384x63, .f32⟩
  | 65 => ⟨S16384x63, .f32⟩
  | 66 => ⟨S16384x63, .f32⟩
  | 67 => ⟨S_, .f32⟩
  | 68 => ⟨S63, .f32⟩
  | 69 => ⟨S63, .f32⟩
  | 70 => ⟨S63, .f32⟩
  | 71 => ⟨S63, .f32⟩
  | 72 => ⟨S16384x99, .i1⟩
  | 73 => ⟨S16384x99, .i1⟩
  | 74 => ⟨S_, .i1⟩
  | 75 => ⟨S16384, .i1⟩
  | 76 => ⟨S16384, .f32⟩
  | 77 => ⟨S_, .f32⟩
  | 78 => ⟨S_, .f32⟩
  | 79 => ⟨S16384, .f32⟩
  | 80 => ⟨S16384x1, .f32⟩
  | 81 => ⟨S16384x1, .i1⟩
  | 82 => ⟨S_, .f32⟩
  | 83 => ⟨S_, .f32⟩
  | 84 => ⟨S16384x99, .i1⟩
  | 85 => ⟨S16384x99, .f32⟩
  | 86 => ⟨S16384x99, .f32⟩
  | 87 => ⟨S_, .f32⟩
  | 88 => ⟨S99, .f32⟩
  | 89 => ⟨S99, .f32⟩
  | 90 => ⟨S99, .f32⟩
  | 91 => ⟨S16384x1, .i1⟩
  | 92 => ⟨S1x99, .f32⟩
  | 93 => ⟨S16384x99, .f32⟩
  | 94 => ⟨S16384x99, .f32⟩
  | 95 => ⟨S_, .f32⟩
  | 96 => ⟨S_, .f32⟩
  | 97 => ⟨S16384x99, .i1⟩
  | 98 => ⟨S16384x99, .f32⟩
  | 99 => ⟨S16384x99, .f32⟩
  | 100 => ⟨S16384x99, .f32⟩
  | 101 => ⟨S_, .f32⟩
  | 102 => ⟨S99, .f32⟩
  | 103 => ⟨S99, .f32⟩
  | 104 => ⟨S99, .f32⟩
  | 105 => ⟨S99, .f32⟩
  | 106 => ⟨S16384x63, .i1⟩
  | 107 => ⟨S16384x63, .i1⟩
  | 108 => ⟨S_, .i1⟩
  | 109 => ⟨S16384, .i1⟩
  | 110 => ⟨S16384, .f32⟩
  | 111 => ⟨S_, .f32⟩
  | 112 => ⟨S_, .f32⟩
  | 113 => ⟨S16384, .f32⟩
  | 114 => ⟨S16384x1, .f32⟩
  | 115 => ⟨S16384x1, .i1⟩
  | 116 => ⟨S_, .f32⟩
  | 117 => ⟨S_, .f32⟩
  | 118 => ⟨S16384x63, .i1⟩
  | 119 => ⟨S16384x63, .f32⟩
  | 120 => ⟨S16384x63, .f32⟩
  | 121 => ⟨S_, .f32⟩
  | 122 => ⟨S63, .f32⟩
  | 123 => ⟨S63, .f32⟩
  | 124 => ⟨S63, .f32⟩
  | 125 => ⟨S16384x1, .i1⟩
  | 126 => ⟨S1x63, .f32⟩
  | 127 => ⟨S16384x63, .f32⟩
  | _ => ⟨S16384x543x3, .f32⟩

abbrev hbmTy0_1 (i : Nat) : BufTy := match i % 128 with
  | 0 => ⟨S16384x63, .f32⟩
  | 1 => ⟨S_, .f32⟩
  | 2 => ⟨S_, .f32⟩
  | 3 => ⟨S16384x63, .i1⟩
  | 4 => ⟨S16384x63, .f32⟩
  | 5 => ⟨S16384x63, .f32⟩
  | 6 => ⟨S16384x63, .f32⟩
  | 7 => ⟨S_, .f32⟩
  | 8 => ⟨S63, .f32⟩
  | 9 => ⟨S63, .f32⟩
  | 10 => ⟨S63, .f32⟩
  | 11 => ⟨S63, .f32⟩
  | 12 => ⟨S3258, .f32⟩
  | 13 => ⟨S3258, .f32⟩
  | 14 => ⟨S_, .f32⟩
  | 15 => ⟨S3258, .f32⟩
  | 16 => ⟨S3258, .i1⟩
  | 17 => ⟨S_, .f32⟩
  | 18 => ⟨S3258, .f32⟩
  | 19 => ⟨S3258, .f32⟩
  | 20 => ⟨S1x3258, .f32⟩
  | _ => ⟨S16384x543x3, .f32⟩

abbrev hbmTy (i : Nat) : BufTy := match i / 128 with
  | 0 => hbmTy0_0 i
  | 1 => hbmTy0_1 i
  | _ => ⟨S16384x543x3, .f32⟩

abbrev bufTy : (tb : Table) → Fin (tcTables nBuf tb) → BufTy
  | .hbm, ⟨i, _⟩ => hbmTy i
  | _, _ => ⟨S16384x543x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_cst_0 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_cst_1 : Ref sig .tc := ⟨.hbm, 25, rfl⟩
abbrev main_call0_call0_v8 : Ref sig .tc := ⟨.hbm, 26, rfl⟩
abbrev main_call0_call0_cst_2 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_call0_cst_3 : Ref sig .tc := ⟨.hbm, 31, rfl⟩
abbrev main_call0_call0_v12 : Ref sig .tc := ⟨.hbm, 32, rfl⟩
abbrev main_call0_call0_cst_4 : Ref sig .tc := ⟨.hbm, 33, rfl⟩
abbrev main_call0_call0_call0_v0 : Ref sig .tc := ⟨.hbm, 34, rfl⟩
abbrev main_call0_call0_call0_v1 : Ref sig .tc := ⟨.hbm, 35, rfl⟩
abbrev main_call0_v0 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_c_1 : Ref sig .tc := ⟨.hbm, 40, rfl⟩
abbrev main_v14 : Ref sig .tc := ⟨.hbm, 41, rfl⟩
abbrev main_v15 : Ref sig .tc := ⟨.hbm, 42, rfl⟩
abbrev main_cst_2 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_3 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v20 : Ref sig .tc := ⟨.hbm, 52, rfl⟩
abbrev main_cst_4 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_5 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v28 : Ref sig .tc := ⟨.hbm, 65, rfl⟩
abbrev main_v29 : Ref sig .tc := ⟨.hbm, 66, rfl⟩
abbrev main_cst_6 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_c_7 : Ref sig .tc := ⟨.hbm, 74, rfl⟩
abbrev main_v36 : Ref sig .tc := ⟨.hbm, 75, rfl⟩
abbrev main_v37 : Ref sig .tc := ⟨.hbm, 76, rfl⟩
abbrev main_cst_8 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_cst_9 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_v42 : Ref sig .tc := ⟨.hbm, 86, rfl⟩
abbrev main_cst_10 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_cst_11 : Ref sig .tc := ⟨.hbm, 95, rfl⟩
abbrev main_call4_v0 : Ref sig .tc := ⟨.hbm, 96, rfl⟩
abbrev main_call4_v1 : Ref sig .tc := ⟨.hbm, 97, rfl⟩
abbrev main_call4_v2 : Ref sig .tc := ⟨.hbm, 98, rfl⟩
abbrev main_v50 : Ref sig .tc := ⟨.hbm, 99, rfl⟩
abbrev main_v51 : Ref sig .tc := ⟨.hbm, 100, rfl⟩
abbrev main_cst_12 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_c_13 : Ref sig .tc := ⟨.hbm, 108, rfl⟩
abbrev main_v58 : Ref sig .tc := ⟨.hbm, 109, rfl⟩
abbrev main_v59 : Ref sig .tc := ⟨.hbm, 110, rfl⟩
abbrev main_cst_14 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_15 : Ref sig .tc := ⟨.hbm, 116, rfl⟩
abbrev main_call5_v0 : Ref sig .tc := ⟨.hbm, 117, rfl⟩
abbrev main_call5_v1 : Ref sig .tc := ⟨.hbm, 118, rfl⟩
abbrev main_call5_v2 : Ref sig .tc := ⟨.hbm, 119, rfl⟩
abbrev main_v64 : Ref sig .tc := ⟨.hbm, 120, rfl⟩
abbrev main_cst_16 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_cst_17 : Ref sig .tc := ⟨.hbm, 129, rfl⟩
abbrev main_call6_v0 : Ref sig .tc := ⟨.hbm, 130, rfl⟩
abbrev main_call6_v1 : Ref sig .tc := ⟨.hbm, 131, rfl⟩
abbrev main_call6_v2 : Ref sig .tc := ⟨.hbm, 132, rfl⟩
abbrev main_v72 : Ref sig .tc := ⟨.hbm, 133, rfl⟩
abbrev main_v73 : Ref sig .tc := ⟨.hbm, 134, rfl⟩
abbrev main_cst_18 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_cst_19 : Ref sig .tc := ⟨.hbm, 142, rfl⟩
abbrev main_v80 : Ref sig .tc := ⟨.hbm, 143, rfl⟩
abbrev main_v81 : Ref sig .tc := ⟨.hbm, 144, rfl⟩
abbrev main_cst_20 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩

abbrev nD : Nat := 1
abbrev τ : Topo := Topo.v7x

variable {F : FTy → Type} [FloatOps F]
-- ==== Proof.Base.lean ====
/-
  The set-up of the proof about the kernel's program (`Cert.KernelIdeal`): the program as the launch theorem for
  SparseCore programs sees it, the resource algebra, the arrays and scratch buffers under short names, and the VALUES
  of the SparseCore call.

  The call cuts rows of the transposed input into 1056 pieces of 8 channels by 2048 rows; tile `(c, s)` takes the 33
  pieces from `66 s + 33 c`. Of a piece it leaves, for each of its 8 channels, sixteen partial sums and sixteen
  partial sums of squares (`accS`, `accQ`), 256 numbers in all.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Ring
public import Idealize.ShloMosaic.Lib.Writes
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the two TensorCore pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP embR; infer_instance

/-! ## The arrays and buffers -/

/-- The transposed input and the call's result, the TensorCore's arrays. -/
abbrev xLoc (d : Dev nD) : Loc nD τ sig := (SparseCore.T d).loc main_v0
abbrev oLoc (d : Dev nD) : Loc nD τ sig := (SparseCore.T d).loc main_v1

/-- The SparseCore and the tile's number on it, and the tile's thread. -/
abbrev cV (L : grid0.Coords) : Fin τ.nSC := (L 0).castLE hcore0
abbrev jV (L : grid0.Coords) := (L 1).castLE hsub0
abbrev thr (d : Dev nD) (L : grid0.Coords) : Thread nD τ := V d (cV L) (jV L)

/-! ## The values -/

/-- The first piece of the tile at `L`. -/
def base (L : grid0.Coords) : ℕ := 66 * (L 1).val + 33 * (L 0).val

theorem base_le (L : grid0.Coords) : base L + 33 ≤ 1056 := by
  have h0 : (L 0).val < 2 := (L 0).isLt
  have h1 : (L 1).val < 16 := (L 1).isLt
  unfold base; omega

/-- Where piece `P` starts in the transposed input. -/
def pieceOff (P : ℕ) : Fin 3 → ℕ := ![P % 1056 / 352, P % 1056 % 352 / 8 * 8, P % 1056 % 8 * 2048]

theorem pieceOff_inb (P : ℕ) : ∀ a, pieceOff P a + S1x8x2048.size a ≤ S3x543x16384.size a := by
  intro a; fin_cases a <;> simp [pieceOff] <;> omega

/-- An entry of the transposed input. -/
def xIdx (k c r : ℕ) (hk : k < 3) (hc : c < 543) (hr : r < 16384) : S3x543x16384.Idx :=
  fun | 0 => ⟨k, hk⟩ | 1 => ⟨c, hc⟩ | 2 => ⟨r, hr⟩

/-- Piece `P` of the transposed input. -/
def pieceV (X : S3x543x16384.Idx → F .f32) (P : ℕ) : S8x2048.Idx → F .f32 := fun y =>
  X (xIdx (P % 1056 / 352) (P % 1056 % 352 / 8 * 8 + (y 0).val) (P % 1056 % 8 * 2048 + (y 1).val)
    (by omega) (by have := ext8 (y 0); omega) (by have := ext2048 (y 1); omega))
where
  ext8 (a : Fin (S8x2048.size 0)) : a.val < 8 := a.isLt
  ext2048 (a : Fin (S8x2048.size 1)) : a.val < 2048 := a.isLt

variable [FloatOps F]

/-- Sixteen neighbouring entries of row `s` of a piece: the `n`-th group. -/
def rowV (Y : S8x2048.Idx → F .f32) (s : Fin 8) (n : ℕ) : FVec F S16 .f32 := fun l =>
  Y (fun | 0 => s | 1 => ⟨(16 * n + (l 0).val) % 2048, Nat.mod_lt _ (by decide)⟩)

/-- The sixteen partial sums of row `s` after `n` groups, and the sixteen partial sums of squares. -/
def accS (Y : S8x2048.Idx → F .f32) (s : Fin 8) : ℕ → FVec F S16 .f32
  | 0 => broadcast S16 (Scalar.ofBits .f32 0x00000000#32)
  | n + 1 => addf (accS Y s n) (rowV Y s n)
def accQ (Y : S8x2048.Idx → F .f32) (s : Fin 8) : ℕ → FVec F S16 .f32
  | 0 => broadcast S16 (Scalar.ofBits .f32 0x00000000#32)
  | n + 1 => addf (accQ Y s n) (mulf (rowV Y s n) (rowV Y s n))

/-- Lane `l` of a vector of sixteen. -/
def lane (l : ℕ) : S16.Idx := fun | 0 => ⟨l % 16, Nat.mod_lt _ (by decide)⟩

/-- Entry `e` of the 256 numbers a piece leaves: the sums of the 8 rows, then the sums of squares. -/
def pieceOut (Y : S8x2048.Idx → F .f32) (e : ℕ) : F .f32 :=
  if e < 128 then accS Y ⟨e / 16 % 8, Nat.mod_lt _ (by decide)⟩ 128 (lane e)
  else accQ Y ⟨e / 16 % 8, Nat.mod_lt _ (by decide)⟩ 128 (lane e)

/-- What the tile that begins at piece `b` stages, and the whole result of the call. -/
def stageV (X : S3x543x16384.Idx → F .f32) (b : ℕ) : S8448.Idx → F .f32 := fun e => pieceOut (pieceV X (b + (e 0).val / 256)) ((e 0).val % 256)
def scOut (X : S3x543x16384.Idx → F .f32) : S270336.Idx → F .f32 := fun e => pieceOut (pieceV X ((e 0).val / 256)) ((e 0).val % 256)

end Cert.Proof.Tile

end
-- ==== Proof.TileValue.lean ====
/-
  The windows through which the body of the SparseCore call reads and writes, and the values of its loops' steps: a
  trip of an inner loop adds two groups to each accumulator, and sixteen stores complete one piece of the staging
  buffer.
-/
module

public import proofs.«01_k».proof.Proof.Base
public import Idealize.ShloMosaic.Lib.VecWindow
public import Idealize.ShloMosaic.Lib.ValueLayout

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs as the body table passes them

/-! ## The windows of the body -/

/-- The three banks of the staging buffer, as the body spells them. -/
abbrev bank0 : Memref sig .scVector .vmem S8x2048 .f32 :=
  (((Memref.whole cc0_scratch0)).slice (Rect.unit (s := S3x8x2048) ![0, 0, 0] S1x8x2048.size inb_S3x8x2048_S1x8x2048_0_0_0) (fun _ => rfl)).squeeze S8x2048 squeezes_S1x8x2048_S8x2048
abbrev bank1 : Memref sig .scVector .vmem S8x2048 .f32 :=
  (((Memref.whole cc0_scratch0)).slice (Rect.unit (s := S3x8x2048) ![1, 0, 0] S1x8x2048.size inb_S3x8x2048_S1x8x2048_1_0_0) (fun _ => rfl)).squeeze S8x2048 squeezes_S1x8x2048_S8x2048
abbrev bank2 : Memref sig .scVector .vmem S8x2048 .f32 :=
  (((Memref.whole cc0_scratch0)).slice (Rect.unit (s := S3x8x2048) ![2, 0, 0] S1x8x2048.size inb_S3x8x2048_S1x8x2048_2_0_0) (fun _ => rfl)).squeeze S8x2048 squeezes_S1x8x2048_S8x2048

/-- Piece `P` of the transposed input, as the body spells a piece. -/
def pieceM (P : ℕ) : Memref sig .scVector .hbm S8x2048 .f32 :=
  (((Memref.whole main_v0_scv)).slice (Rect.unit (s := S3x543x16384) (pieceOff P) S1x8x2048.size (pieceOff_inb P)) (fun _ => rfl)).squeeze S8x2048 squeezes_S1x8x2048_S8x2048

/-- The tile's slice of the result. -/
abbrev outM (L : grid0.Coords) : Memref sig .scVector .hbm S8448 .f32 :=
  ((Memref.whole main_v1_scv)).slice (Rect.unit (s := S270336) (k0_off31 L) S8448.size (k0_off31_inb L)) (fun _ => rfl)

section Canon

theorem coff1 : ∀ (L : grid0.Coords) (r : Fin 2), k0_off1 L (BitVec.ofNat 32 r.val) = pieceOff (base L + r.val) := by decide +kernel
theorem coff2 : ∀ (L : grid0.Coords) (t : Fin k0_t1_loop.trips), k0_off2 L t = pieceOff (base L + (3 * t.val + 2)) := by decide +kernel
theorem coff13 : ∀ (L : grid0.Coords) (t : Fin k0_t1_loop.trips), k0_cond2 t = 1#1 → k0_off13 L t = pieceOff (base L + (3 * (t.val + 1))) := by decide +kernel
theorem coff22 : ∀ (L : grid0.Coords) (t : Fin k0_t1_loop.trips), k0_cond3 t = 1#1 → k0_off22 L t = pieceOff (base L + (3 * (t.val + 1) + 1)) := by decide +kernel

theorem cond1_true : ∀ t : Fin k0_t1_loop.trips, k0_cond1 t = 1#1 := by decide +kernel
theorem cond2_iff : ∀ t : Fin k0_t1_loop.trips, k0_cond2 t = 1#1 ↔ t.val < 10 := by decide +kernel
theorem cond3_iff : ∀ t : Fin k0_t1_loop.trips, k0_cond3 t = 1#1 ↔ t.val < 10 := by decide +kernel
theorem trips1 : k0_t1_loop.trips = 11 := by decide +kernel

/-- A piece the body names is the piece at its number: equal offsets, equal windows. -/
theorem piece_eq {off : Fin 3 → ℕ} {P : ℕ} (h : off = pieceOff P) (inb : ∀ a, off a + S1x8x2048.size a ≤ S3x543x16384.size a) :
    (((Memref.whole main_v0_scv)).slice (Rect.unit (s := S3x543x16384) off S1x8x2048.size inb) (fun _ => rfl)).squeeze S8x2048 squeezes_S1x8x2048_S8x2048 = pieceM P :=
  congrArg (fun M : Memref sig .scVector .hbm S1x8x2048 .f32 => M.squeeze S8x2048 squeezes_S1x8x2048_S8x2048)
    (Memref.slice_unit_congr _ h _ _ (fun _ => rfl) (fun _ => rfl))

@[sl_canon] theorem canon_a (L : grid0.Coords) :
    (((Memref.whole main_v0_scv)).slice (Rect.unit (s := S3x543x16384) (k0_off1 L 0#32) S1x8x2048.size (k0_off1_inb L 0)) (fun _ => rfl)).squeeze S8x2048 squeezes_S1x8x2048_S8x2048
      = pieceM (base L + 3 * 0) := piece_eq (coff1 L 0) _
@[sl_canon] theorem canon_b (L : grid0.Coords) :
    (((Memref.whole main_v0_scv)).slice (Rect.unit (s := S3x543x16384) (k0_off1 L 1#32) S1x8x2048.size (k0_off1_inb L 1)) (fun _ => rfl)).squeeze S8x2048 squeezes_S1x8x2048_S8x2048
      = pieceM (base L + (3 * 0 + 1)) := piece_eq (coff1 L 1) _
@[sl_canon] theorem canon_c (L : grid0.Coords) (t : Fin k0_t1_loop.trips) (h : k0_cond1 t = 1#1) :
    (((Memref.whole main_v0_scv)).slice (Rect.unit (s := S3x543x16384) (k0_off2 L t) S1x8x2048.size (k0_off2_inb L t h)) (fun _ => rfl)).squeeze S8x2048 squeezes_S1x8x2048_S8x2048
      = pieceM (base L + (3 * t.val + 2)) := piece_eq (coff2 L t) _
@[sl_canon] theorem canon_d (L : grid0.Coords) (t : Fin k0_t1_loop.trips) (h : k0_cond2 t = 1#1) :
    (((Memref.whole main_v0_scv)).slice (Rect.unit (s := S3x543x16384) (k0_off13 L t) S1x8x2048.size (k0_off13_inb L t h)) (fun _ => rfl)).squeeze S8x2048 squeezes_S1x8x2048_S8x2048
      = pieceM (base L + 3 * (t.val + 1)) := piece_eq (coff13 L t h) _
@[sl_canon] theorem canon_e (L : grid0.Coords) (t : Fin k0_t1_loop.trips) (h : k0_cond3 t = 1#1) :
    (((Memref.whole main_v0_scv)).slice (Rect.unit (s := S3x543x16384) (k0_off22 L t) S1x8x2048.size (k0_off22_inb L t h)) (fun _ => rfl)).squeeze S8x2048 squeezes_S1x8x2048_S8x2048
      = pieceM (base L + (3 * (t.val + 1) + 1)) := piece_eq (coff22 L t h) _

end Canon

variable [FloatOps F]

/-! ## The inner loops -/

/-- The sixteen accumulators after `n` groups of a piece. -/
abbrev accT (Y : S8x2048.Idx → F .f32) (n : ℕ) :
    FVec F S16 .f32 × FVec F S16 .f32 × FVec F S16 .f32 × FVec F S16 .f32 × FVec F S16 .f32 × FVec F S16 .f32 × FVec F S16 .f32 × FVec F S16 .f32
      × FVec F S16 .f32 × FVec F S16 .f32 × FVec F S16 .f32 × FVec F S16 .f32 × FVec F S16 .f32 × FVec F S16 .f32 × FVec F S16 .f32 × FVec F S16 .f32 :=
  (accS Y 0 n, accQ Y 0 n, accS Y 1 n, accQ Y 1 n, accS Y 2 n, accQ Y 2 n, accS Y 3 n, accQ Y 3 n,
    accS Y 4 n, accQ Y 4 n, accS Y 5 n, accQ Y 5 n, accS Y 6 n, accQ Y 6 n, accS Y 7 n, accQ Y 7 n)

/-- A load of sixteen entries of a bank is a group of the piece in it. -/
theorem load_row (B : Memref sig .scVector .vmem S8x2048 .f32) {f : B.view.ty.Contents (Elt F)} {Y : S8x2048.Idx → F .f32}
    (hf : B.view.read (Elt F) f = Y) {off : Fin 2 → ℕ} (s : Fin 8) (n : ℕ) (hn : n < 128) (ho : off = ![s.val, 16 * n])
    (inb : ∀ a, off a + S1x16.size a ≤ S8x2048.size a) (h : Shape.ShapeCasts S1x16 S16) :
    shapeCast S16 (B.view.readAt (Elt F) (Rect.unit (s := S8x2048) off S1x16.size inb).toLoadRect f) h = rowV Y s n := by
  subst ho
  rw [View.readAt_unit B.view f inb rfl inb, hf]
  funext l
  have hl : l = ValueIdx.ix1 (l 0) := by funext a; fin_cases a; rfl
  rw [hl]
  refine (ValueIdx.shapeCast_1a_a_apply _ _ _).trans ?_
  unfold VecWindow.window rowV
  refine congrArg Y ?_
  funext a
  have hl2 : (l 0).val < 16 := (l 0).isLt
  fin_cases a
  · exact Fin.ext (by simp [Rect.emb, Rect.unit])
  · refine Fin.ext ?_
    simp [Rect.emb, Rect.unit]
    show 16 * n + (l 0).val = (16 * n + (l 0).val) % 2048
    omega

theorem stepS (B : Memref sig .scVector .vmem S8x2048 .f32) {f : B.view.ty.Contents (Elt F)} {Y : S8x2048.Idx → F .f32}
    (hf : B.view.read (Elt F) f = Y) (s : Fin 8) (k : ℕ) (hk : k < 64) (o : Fin 2 → Fin 2 → ℕ) (ho : ∀ r, o r = ![s.val, 32 * k + 16 * r.val])
    (inb : ∀ r a, o r a + S1x16.size a ≤ S8x2048.size a) :
    addf (addf (accS Y s (2 * k)) (shapeCast S16 (B.view.readAt (Elt F) (Rect.unit (s := S8x2048) (o 0) S1x16.size (inb 0)).toLoadRect f) shapeCasts_S1x16_S16))
      (shapeCast S16 (B.view.readAt (Elt F) (Rect.unit (s := S8x2048) (o 1) S1x16.size (inb 1)).toLoadRect f) shapeCasts_S1x16_S16) = accS Y s (2 * (k + 1)) := by
  rw [load_row B hf s (2 * k) (by omega) ((ho 0).trans (by simp; omega)), load_row B hf s (2 * k + 1) (by omega) ((ho 1).trans (by simp; omega))]
  rfl

theorem stepQ (B : Memref sig .scVector .vmem S8x2048 .f32) {f : B.view.ty.Contents (Elt F)} {Y : S8x2048.Idx → F .f32}
    (hf : B.view.read (Elt F) f = Y) (s : Fin 8) (k : ℕ) (hk : k < 64) (o : Fin 2 → Fin 2 → ℕ) (ho : ∀ r, o r = ![s.val, 32 * k + 16 * r.val])
    (inb : ∀ r a, o r a + S1x16.size a ≤ S8x2048.size a) :
    addf (addf (accQ Y s (2 * k)) (mulf (shapeCast S16 (B.view.readAt (Elt F) (Rect.unit (s := S8x2048) (o 0) S1x16.size (inb 0)).toLoadRect f) shapeCasts_S1x16_S16)
        (shapeCast S16 (B.view.readAt (Elt F) (Rect.unit (s := S8x2048) (o 0) S1x16.size (inb 0)).toLoadRect f) shapeCasts_S1x16_S16)))
      (mulf (shapeCast S16 (B.view.readAt (Elt F) (Rect.unit (s := S8x2048) (o 1) S1x16.size (inb 1)).toLoadRect f) shapeCasts_S1x16_S16)
        (shapeCast S16 (B.view.readAt (Elt F) (Rect.unit (s := S8x2048) (o 1) S1x16.size (inb 1)).toLoadRect f) shapeCasts_S1x16_S16)) = accQ Y s (2 * (k + 1)) := by
  rw [load_row B hf s (2 * k) (by omega) ((ho 0).trans (by simp; omega)), load_row B hf s (2 * k + 1) (by omega) ((ho 1).trans (by simp; omega))]
  rfl

/-- One trip of an inner loop: every accumulator takes two more groups. -/
theorem stepT (B : Memref sig .scVector .vmem S8x2048 .f32) {f : B.view.ty.Contents (Elt F)} {Y : S8x2048.Idx → F .f32}
    (hf : B.view.read (Elt F) f = Y) (k : ℕ) (hk : k < 64) (o : Fin 8 → Fin 2 → Fin 2 → ℕ) (ho : ∀ s r, o s r = ![s.val, 32 * k + 16 * r.val])
    (inb : ∀ s r a, o s r a + S1x16.size a ≤ S8x2048.size a) :
    let ld (s : Fin 8) (r : Fin 2) : FVec F S16 .f32 :=
      shapeCast S16 (B.view.readAt (Elt F) (Rect.unit (s := S8x2048) (o s r) S1x16.size (inb s r)).toLoadRect f) shapeCasts_S1x16_S16
    let nS (s : Fin 8) : FVec F S16 .f32 := addf (addf (accS Y s (2 * k)) (ld s 0)) (ld s 1)
    let nQ (s : Fin 8) : FVec F S16 .f32 := addf (addf (accQ Y s (2 * k)) (mulf (ld s 0) (ld s 0))) (mulf (ld s 1) (ld s 1))
    (nS 0, nQ 0, nS 1, nQ 1, nS 2, nQ 2, nS 3, nQ 3, nS 4, nQ 4, nS 5, nQ 5, nS 6, nQ 6, nS 7, nQ 7) = accT Y (2 * (k + 1)) := by
  intro ld nS nQ
  have hS : ∀ s, nS s = accS Y s (2 * (k + 1)) := fun s => stepS B hf s k hk (o s) (ho s) (inb s)
  have hQ : ∀ s, nQ s = accQ Y s (2 * (k + 1)) := fun s => stepQ B hf s k hk (o s) (ho s) (inb s)
  simp only [hS, hQ]

/-! ## The staging buffer -/

section Stage

variable (d : Dev nD) (L : grid0.Coords) (X : Buf (Elt F) (xLoc d))

/-- The staging buffer's contents are right up to the tile's piece `j`. -/
def Good (j : ℕ) (g : S8448.Idx → F .f32) : Prop := ∀ e : S8448.Idx, (e 0).val < 256 * j → g e = stageV (F := F) X (base L) e

/-- The same with `n` groups of piece `j` beside: the even groups are sums, the odd ones sums of squares. -/
def GoodN (j n : ℕ) (g : S8448.Idx → F .f32) : Prop :=
  ∀ e : S8448.Idx, ((e 0).val < 256 * j ∨ ((e 0).val < 256 * (j + 1) ∧ 2 * (((e 0).val - 256 * j) % 128 / 16) + ((e 0).val - 256 * j) / 128 < n)) →
    g e = stageV (F := F) X (base L) e

theorem goodN_zero {j : ℕ} {g : S8448.Idx → F .f32} (h : Good d L X j g) : GoodN d L X j 0 g :=
  fun e he => h e (by omega)

theorem good_of_goodN {j : ℕ} {g : S8448.Idx → F .f32} (h : GoodN d L X j 16 g) : Good d L X (j + 1) g := fun e he => h e (by omega)

theorem read_sW (g : ((Memref.whole cc0_scratch1)).view.ty.Contents (Elt F)) : ((Memref.whole cc0_scratch1)).view.read (Elt F) g = g := by
  simp only [Memref.view_whole]; exact View.read_whole _ _

theorem read_sW_miss (g : ((Memref.whole cc0_scratch1)).view.ty.Contents (Elt F)) (p : View.Piece (Elt F) S8448 .f32) (Ls : List (View.Piece (Elt F) S8448 .f32)) (e : S8448.Idx)
    (he : e ∉ p.1.set) : ((Memref.whole cc0_scratch1)).view.writes (Elt F) g (p :: Ls) e = ((Memref.whole cc0_scratch1)).view.writes (Elt F) g Ls e := by
  have := View.read_writes_cons_miss ((Memref.whole cc0_scratch1)).view g p Ls e he
  rwa [read_sW, read_sW] at this

/-- One store into the staging buffer: group `n` of piece `j`. -/
theorem goodN_store {j n a : ℕ} {g : ((Memref.whole cc0_scratch1)).view.ty.Contents (Elt F)} {Ls : List (View.Piece (Elt F) S8448 .f32)}
    (h : GoodN d L X j n (((Memref.whole cc0_scratch1)).view.writes (Elt F) g Ls)) {off : Fin 1 → ℕ} (ho : off = ![a]) (ha : a = 256 * j + 16 * (n / 2) + 128 * (n % 2)) (hn : n < 16)
    (inb : ∀ a, off a + S16.size a ≤ S8448.size a) (w : FVec F S16 .f32)
    (hw : ∀ l : S16.Idx, w l = pieceOut (pieceV X (base L + j)) (16 * (n / 2) + 128 * (n % 2) + (l 0).val)) :
    GoodN d L X j (n + 1) (((Memref.whole cc0_scratch1)).view.writes (Elt F) g (⟨Rect.unit (s := S8448) off S16.size inb, w⟩ :: Ls)) := by
  subst ho
  intro e he
  by_cases hm : a ≤ (e 0).val ∧ (e 0).val < a + 16
  · obtain ⟨lx, hlx⟩ : ∃ lx : S16.Idx, (lx 0).val = (e 0).val - a := ⟨fun | 0 => ⟨(e 0).val - a, by show _ < 16; omega⟩, rfl⟩
    have he' : (Rect.unit (s := S8448) ![a] S16.size inb).emb lx = e := by
      funext b; fin_cases b; refine Fin.ext ?_; simp [Rect.emb, Rect.unit]; omega
    refine Eq.trans ?_ ((hw lx).trans ?_)
    · have key := View.read_writes_cons_emb ((Memref.whole cc0_scratch1)).view g (Rect.unit (s := S8448) ![a] S16.size inb) w Ls lx
      rw [read_sW, he'] at key
      exact key
    · have h1 : (e 0).val / 256 = j := by omega
      have h2 : (e 0).val % 256 = 16 * (n / 2) + 128 * (n % 2) + (lx 0).val := by omega
      unfold stageV
      rw [h1, h2]
  · refine Eq.trans (read_sW_miss g ⟨Rect.unit (s := S8448) ![a] S16.size inb, w⟩ Ls e (fun hy => hm ?_)) (h e ?_)
    · have := (Rect.mem_set_unit (inb := inb)).mp hy 0
      exact ⟨this.1, this.2⟩
    · omega

theorem goodN_storeS {j a : ℕ} {g : ((Memref.whole cc0_scratch1)).view.ty.Contents (Elt F)} {Ls : List (View.Piece (Elt F) S8448 .f32)} (s : Fin 8)
    (h : GoodN d L X j (2 * s.val) (((Memref.whole cc0_scratch1)).view.writes (Elt F) g Ls)) {off : Fin 1 → ℕ} (ho : off = ![a]) (ha : a = 256 * j + 16 * s.val)
    (inb : ∀ a, off a + S16.size a ≤ S8448.size a) (hc : Shape.ShapeCasts S16 S16) :
    GoodN d L X j (2 * s.val + 1) (((Memref.whole cc0_scratch1)).view.writes (Elt F) g (⟨Rect.unit (s := S8448) off S16.size inb, shapeCast S16 (accS (pieceV X (base L + j)) s 128) hc⟩ :: Ls)) := by
  have hs : s.val < 8 := s.isLt
  refine goodN_store d L X h ho (by omega) (by omega) inb _ fun l => ?_
  have hl : (l 0).val < 16 := (l 0).isLt
  rw [shapeCast_self]
  unfold pieceOut
  rw [if_pos (by omega)]
  congr 1
  · congr 1; exact Fin.ext (by show s.val = (16 * _ + 128 * _ + (l 0).val) / 16 % 8; omega)
  · funext b; fin_cases b; exact Fin.ext (by show (l 0).val = _ % 16; omega)

theorem goodN_storeQ {j a : ℕ} {g : ((Memref.whole cc0_scratch1)).view.ty.Contents (Elt F)} {Ls : List (View.Piece (Elt F) S8448 .f32)} (s : Fin 8)
    (h : GoodN d L X j (2 * s.val + 1) (((Memref.whole cc0_scratch1)).view.writes (Elt F) g Ls)) {off : Fin 1 → ℕ} (ho : off = ![a]) (ha : a = 256 * j + 16 * s.val + 128)
    (inb : ∀ a, off a + S16.size a ≤ S8448.size a) (hc : Shape.ShapeCasts S16 S16) :
    GoodN d L X j (2 * (s.val + 1)) (((Memref.whole cc0_scratch1)).view.writes (Elt F) g (⟨Rect.unit (s := S8448) off S16.size inb, shapeCast S16 (accQ (pieceV X (base L + j)) s 128) hc⟩ :: Ls)) := by
  have hs : s.val < 8 := s.isLt
  refine goodN_store d L X h ho (by omega) (by omega) inb _ fun l => ?_
  have hl : (l 0).val < 16 := (l 0).isLt
  rw [shapeCast_self]
  unfold pieceOut
  rw [if_neg (by omega)]
  congr 1
  · congr 1; exact Fin.ext (by show s.val = (16 * _ + 128 * _ + (l 0).val) / 16 % 8; omega)
  · funext b; fin_cases b; exact Fin.ext (by show (l 0).val = _ % 16; omega)

/-- The sixteen stores of a piece. -/
theorem good_stores (j : ℕ) {g : ((Memref.whole cc0_scratch1)).view.ty.Contents (Elt F)} {Ls : List (View.Piece (Elt F) S8448 .f32)} (hg : Good d L X j (((Memref.whole cc0_scratch1)).view.writes (Elt F) g Ls)) (o1 o2 : Fin 8 → Fin 1 → ℕ)
    (h1 : ∀ s, o1 s = ![256 * j + 16 * s.val]) (h2 : ∀ s, o2 s = ![256 * j + 16 * s.val + 128])
    (i1 : ∀ s a, o1 s a + S16.size a ≤ S8448.size a) (i2 : ∀ s a, o2 s a + S16.size a ≤ S8448.size a) :
    let pS (s : Fin 8) : View.Piece (Elt F) S8448 .f32 :=
      ⟨Rect.unit (s := S8448) (o1 s) S16.size (i1 s), shapeCast S16 (accS (pieceV X (base L + j)) s 128) shapeCasts_S16_S16⟩
    let pQ (s : Fin 8) : View.Piece (Elt F) S8448 .f32 :=
      ⟨Rect.unit (s := S8448) (o2 s) S16.size (i2 s), shapeCast S16 (accQ (pieceV X (base L + j)) s 128) shapeCasts_S16_S16⟩
    Good d L X (j + 1) (((Memref.whole cc0_scratch1)).view.writes (Elt F) g (pQ 7 :: pS 7 :: pQ 6 :: pS 6 :: pQ 5 :: pS 5 :: pQ 4 :: pS 4 :: pQ 3 :: pS 3 :: pQ 2 :: pS 2 :: pQ 1 :: pS 1 :: pQ 0 :: pS 0 :: Ls)) := by
  intro pS pQ
  have hst (s : Fin 8) {Ls : List (View.Piece (Elt F) S8448 .f32)} (h : GoodN d L X j (2 * s.val) (((Memref.whole cc0_scratch1)).view.writes (Elt F) g Ls)) :
      GoodN d L X j (2 * (s.val + 1)) (((Memref.whole cc0_scratch1)).view.writes (Elt F) g (pQ s :: pS s :: Ls)) :=
    goodN_storeQ d L X s (goodN_storeS d L X s h (h1 s) rfl _ _) (h2 s) rfl _ _
  exact good_of_goodN d L X (hst 7 (hst 6 (hst 5 (hst 4 (hst 3 (hst 2 (hst 1 (hst 0 (goodN_zero d L X hg)))))))))

/-- The same as the body spells the stores of sub-step `u` of trip `t`. -/
theorem good_piece (t : Fin k0_t1_loop.trips) (u : Fin 3) {g : ((Memref.whole cc0_scratch1)).view.ty.Contents (Elt F)} {Ls : List (View.Piece (Elt F) S8448 .f32)}
    (hg : Good d L X (3 * t.val + u.val) (((Memref.whole cc0_scratch1)).view.writes (Elt F) g Ls)) :
    let pS (s : Fin 8) : View.Piece (Elt F) S8448 .f32 :=
      ⟨Rect.unit (s := S8448) (k0_off11 t (BitVec.ofNat 32 u.val) (BitVec.ofNat 32 (16 * s.val))) S16.size (k0_off11_inb t u s),
        shapeCast S16 (accS (pieceV X (base L + (3 * t.val + u.val))) s 128) shapeCasts_S16_S16⟩
    let pQ (s : Fin 8) : View.Piece (Elt F) S8448 .f32 :=
      ⟨Rect.unit (s := S8448) (k0_off12 t (BitVec.ofNat 32 u.val) (BitVec.ofNat 32 (16 * s.val))) S16.size (k0_off12_inb t u s),
        shapeCast S16 (accQ (pieceV X (base L + (3 * t.val + u.val))) s 128) shapeCasts_S16_S16⟩
    Good d L X (3 * t.val + u.val + 1) (((Memref.whole cc0_scratch1)).view.writes (Elt F) g
      (pQ 7 :: pS 7 :: pQ 6 :: pS 6 :: pQ 5 :: pS 5 :: pQ 4 :: pS 4 :: pQ 3 :: pS 3 :: pQ 2 :: pS 2 :: pQ 1 :: pS 1 :: pQ 0 :: pS 0 :: Ls)) :=
  good_stores d L X (3 * t.val + u.val) hg _ _
    (fun s => (k0_off11_eq t u s).trans (by congr 1; omega)) (fun s => (k0_off12_eq t u s).trans (by congr 1; omega)) _ _

end Stage

/-! ## The copies in -/

theorem read_xW (X : ((Memref.whole main_v0_scv)).view.ty.Contents (Elt F)) : ((Memref.whole main_v0_scv)).view.read (Elt F) X = X := by
  simp only [Memref.view_whole]; exact View.read_whole _ _

/-- A piece read out of the transposed input. -/
theorem pieceM_read (P : ℕ) (X : (pieceM P).view.ty.Contents (Elt F)) : (pieceM P).view.read (Elt F) X = pieceV (F := F) X P := by
  unfold pieceM
  funext y
  refine (congrFun (Memref.read_squeeze_slice ((Memref.whole main_v0_scv)) _ _ squeezes_S1x8x2048_S8x2048 (show Shape.ShapeCasts S1x8x2048 S8x2048 by decide) X) y).trans ?_
  have hy : y = ValueIdx.ix2 (y 0) (y 1) := by funext a; fin_cases a <;> rfl
  rw [hy]
  refine (ValueIdx.shapeCast_1ab_ab_apply _ _ _ _).trans ?_
  refine (congrFun (View.readAt_unit (s := S3x543x16384) (off := pieceOff P) (size := S1x8x2048.size) ((Memref.whole main_v0_scv)).view X (pieceOff_inb P) rfl (pieceOff_inb P)) _).trans ?_
  unfold VecWindow.window pieceV
  refine (congrFun (read_xW (F := F) X) _).trans ?_
  refine congrArg X (Rect.emb_eq_of_coords _ _ _ fun a => ?_)
  fin_cases a
  · show P % 1056 / 352 = P % 1056 / 352 + 1 * 0
    omega
  · show P % 1056 % 352 / 8 * 8 + (y 0).val = P % 1056 % 352 / 8 * 8 + 1 * (y 0).val
    omega
  · show P % 1056 % 8 * 2048 + (y 1).val = P % 1056 % 8 * 2048 + 1 * (y 1).val
    omega

/-- A bank that a copy filled holds what was copied. -/
theorem read_filled (B : Memref sig .scVector .vmem S8x2048 .f32) (f : B.view.ty.Contents (Elt F)) (P : ℕ) (X : (pieceM P).view.ty.Contents (Elt F)) :
    B.view.read (Elt F) (B.view.writes (Elt F) f [⟨Rect.whole S8x2048, (pieceM P).view.read (Elt F) X⟩]) = pieceV (F := F) X P :=
  (View.read_writes_full B.view f _ _ _).trans (pieceM_read P X)

/-! ## The copy out -/

/-- Contents that a view reads alike agree on the view's elements. -/
theorem eq_on_set {κ : Kind} {sp : Space} {s : Shape} {e : EltTy} (v : View sig κ sp s e) {f g : v.ty.Contents (Elt F)}
    (h : v.read (Elt F) f = v.read (Elt F) g) : ∀ i ∈ v.set, f i = g i := by
  intro i hi
  obtain ⟨y, -, rfl⟩ := Finset.mem_map.mp hi
  have := congrFun h y
  rw [View.read_apply, View.read_apply] at this
  exact (cast_inj _).mp this

theorem read_oW (f : ((Memref.whole main_v1_scv)).view.ty.Contents (Elt F)) : ((Memref.whole main_v1_scv)).view.read (Elt F) f = f := by
  simp only [Memref.view_whole]; exact View.read_whole _ _

/-- The whole result as the tile's slice of it reads it: what the tile staged. -/
theorem outM_read (L : grid0.Coords) (X : S3x543x16384.Idx → F .f32) :
    (outM L).view.read (Elt F) (scOut X : S270336.Idx → F .f32) = stageV X (base L) := by
  funext y
  refine (congrFun (read_oW (F := F) (scOut X)) ((Rect.unit (s := S270336) (k0_off31 L) S8448.size (k0_off31_inb L)).emb y)).trans ?_
  have hy : (y 0).val < 8448 := (y 0).isLt
  have h0 : (((Rect.unit (s := S270336) (k0_off31 L) S8448.size (k0_off31_inb L)).emb y) 0).val = 256 * base L + (y 0).val := by
    have : k0_off31 L 0 = 256 * base L := by rw [k0_off31_eq]; show 16896 * (L 1).val + 8448 * (L 0).val = _; unfold base; omega
    show k0_off31 L 0 + 1 * (y 0).val = _
    rw [this]; omega
  unfold scOut stageV
  rw [h0, show (256 * base L + (y 0).val) / 256 = base L + (y 0).val / 256 by omega, show (256 * base L + (y 0).val) % 256 = (y 0).val % 256 by omega]

/-- The tile's slice of the result after the copy out of a complete staging buffer. -/
theorem out_filled (d : Dev nD) (L : grid0.Coords) (X : Buf (Elt F) (xLoc d)) (fo : (outM L).view.ty.Contents (Elt F)) (g : ((Memref.whole cc0_scratch1)).view.ty.Contents (Elt F))
    (hg : Good d L X 33 g) : ∀ i ∈ (outM L).view.set,
      (outM L).view.writes (Elt F) fo [⟨Rect.whole S8448, ReadAs.same.apply (((Memref.whole cc0_scratch1)).view.read (Elt F) g)⟩] i = (scOut (F := F) X : S270336.Idx → F .f32) i := by
  refine eq_on_set (outM L).view (g := (scOut (F := F) X : S270336.Idx → F .f32)) ?_
  refine (View.read_writes_full (outM L).view fo _ _ _).trans (Eq.trans ?_ (outM_read L X).symm)
  refine (read_sW g).trans (funext fun e => hg e ?_)
  have : (e 0).val < 8448 := (e 0).isLt
  omega

end Cert.Proof.Tile

end
-- ==== Proof.Tile.lean ====
/-
  The body of the SparseCore call at one symbolic tile.
-/
module

public import proofs.«01_k».proof.Proof.TileValue

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs as the body table passes them

variable [FloatOps F]

section Body

variable (d : Dev nD) (L : grid0.Coords) (q : PosShare TreeShare)
variable (X : Buf (Elt F) (xLoc d))

/-- The tile's read token number `i` of the transposed input. -/
abbrev xTok (i : ℕ) : sProp 𝕄 := ((Memref.whole main_v0_scv)).view.loc (thr d L) ↦{Transfers.shareTokN q i} X

/-- A bank held by its own elements. -/
abbrev bankP (B : Memref sig .scVector .vmem S8x2048 .f32) (f : Buf (Elt F) (B.view.loc (thr d L))) : sProp 𝕄 :=
  B.view.loc (thr d L) ↦[B.view.set]{fullShare} f

/-- The inner loop's invariant: the bank at its piece, the accumulators after `2 k` groups. -/
def innerInv (B : Memref sig .scVector .vmem S8x2048 .f32) (f : Buf (Elt F) (B.view.loc (thr d L))) (Y : S8x2048.Idx → F .f32) (k : ℕ)
    (st : FVec F S16 .f32 × FVec F S16 .f32 × FVec F S16 .f32 × FVec F S16 .f32 × FVec F S16 .f32 × FVec F S16 .f32 × FVec F S16 .f32 × FVec F S16 .f32
      × FVec F S16 .f32 × FVec F S16 .f32 × FVec F S16 .f32 × FVec F S16 .f32 × FVec F S16 .f32 × FVec F S16 .f32 × FVec F S16 .f32 × FVec F S16 .f32) : sProp 𝕄 :=
  iprop(bankP d L B f ∗ ⌜st = accT Y (2 * k)⌝)

/-- A copy of piece `P` into bank `B` in flight on cell `c`, beside what the copy leaves of the read token. -/
def flightP (B : Memref sig .scVector .vmem S8x2048 .f32) (c : DmaSem sig) (i P : ℕ) : sProp 𝕄 :=
  iprop(∃ f : Buf (Elt F) (B.view.loc (thr d L)), ⌜B.view.read (Elt F) f = pieceV (F := F) X P⌝
    ∗ Transfers.Flight countersEmb (thr d L) (SemLoc.dma c) default 524288
        iprop((B.view.loc (thr d L) ↦[B.view.set]{fullShare} f) ∗ (((Memref.whole main_v0_scv)).view.loc (thr d L) ↦[(pieceM P).view.set]{Transfers.shareTokN q i} X))
    ∗ (((Memref.whole main_v0_scv)).view.loc (thr d L) ↦[Finset.univ \ (pieceM P).view.set]{Transfers.shareTokN q i} X))

/-- A bank at rest: anything in it, its cell at zero, its read token whole. -/
def idleP (B : Memref sig .scVector .vmem S8x2048 .f32) (c : DmaSem sig) (i : ℕ) : sProp 𝕄 :=
  iprop((∃ f, bankP d L B f) ∗ semVal (thr d L, SemLoc.dma c) 0 ∗ xTok d L q X i)

/-- The outer loop's invariant before trip `t`. -/
def inv (O : CellTallies nD τ sig (HIx 1)) (t : ℕ) (_ : BitVec 32) : sProp 𝕄 :=
  iprop(Transfers.MayWaits (thr d L) (none : HIx 1) O
    ∗ (if t < 11 then flightP d L q X bank0 ⟨0, by decide⟩ 0 (base L + 3 * t) else idleP d L q X bank0 ⟨0, by decide⟩ 0)
    ∗ (if t < 11 then flightP d L q X bank1 ⟨1, by decide⟩ 1 (base L + (3 * t + 1)) else idleP d L q X bank1 ⟨1, by decide⟩ 1)
    ∗ idleP d L q X bank2 ⟨2, by decide⟩ 2
    ∗ (∃ g, (((Memref.whole cc0_scratch1)).view.loc (thr d L) ↦{fullShare} g) ∗ ⌜Good d L X (3 * t) g⌝)
    ∗ ∃ W', owes (thr d L) O W')

/-- A bank just filled with piece `P`. -/
theorem bank_filled (B : Memref sig .scVector .vmem S8x2048 .f32) (f : Buf (Elt F) (B.view.loc (thr d L))) (P : ℕ) :
    bankP d L B (B.view.writes (Elt F) f [⟨Rect.whole S8x2048, ReadAs.same.apply ((pieceM P).view.read (Elt F) X)⟩])
      ⊢ (iprop(∃ f, ⌜B.view.read (Elt F) f = pieceV (F := F) X P⌝ ∗ bankP d L B f) : sProp 𝕄) := by
  iintro Hb
  iexists B.view.writes (Elt F) f [⟨Rect.whole S8x2048, ReadAs.same.apply ((pieceM P).view.read (Elt F) X)⟩]
  isplitr
  · ipureintro; exact read_filled B f P X
  · iexact Hb

/-- A copy of piece `P` just started. -/
theorem flight_start (B : Memref sig .scVector .vmem S8x2048 .f32) (c : DmaSem sig) (i P : ℕ) (f : Buf (Elt F) (B.view.loc (thr d L))) :
    (iprop((((Memref.whole main_v0_scv)).view.loc (thr d L) ↦[Finset.univ \ (pieceM P).view.set]{Transfers.shareTokN q i} X)
      ∗ Transfers.Flight countersEmb (thr d L) (SemLoc.dma c) default 524288
          iprop((B.view.loc (thr d L) ↦[B.view.set]{fullShare} B.view.writes (Elt F) f [⟨Rect.whole S8x2048, ReadAs.same.apply ((pieceM P).view.read (Elt F) X)⟩])
            ∗ (((Memref.whole main_v0_scv)).view.loc (thr d L) ↦[(pieceM P).view.set]{Transfers.shareTokN q i} X))) : sProp 𝕄)
      ⊢ flightP d L q X B c i P := by
  unfold flightP
  iintro ⟨Hx, Hf⟩
  iexists B.view.writes (Elt F) f [⟨Rect.whole S8x2048, ReadAs.same.apply ((pieceM P).view.read (Elt F) X)⟩]
  isplitr
  · ipureintro; exact read_filled B f P X
  isplitl [Hf]
  · iexact Hf
  · iexact Hx

/-- A bank and its cell behind the conditional that starts the bank's next copy. -/
theorem bank_next (B : Memref sig .scVector .vmem S8x2048 .f32) (c : DmaSem sig) (i P : ℕ) (f : Buf (Elt F) (B.view.loc (thr d L)))
    (C N : Prop) [Decidable C] [Decidable N] (h : C ↔ N) (G : Finset (Idx (((Memref.whole main_v0_scv)).view.loc (thr d L)))) (hG : G = gset C fun _ => (pieceM P).view.set) :
    (iprop((((Memref.whole main_v0_scv)).view.loc (thr d L) ↦[Finset.univ \ G]{Transfers.shareTokN q i} X)
      ∗ Guarded C (fun _ => Transfers.Flight countersEmb (thr d L) (SemLoc.dma c) default 524288
          iprop((B.view.loc (thr d L) ↦[B.view.set]{fullShare} B.view.writes (Elt F) f [⟨Rect.whole S8x2048, ReadAs.same.apply ((pieceM P).view.read (Elt F) X)⟩])
            ∗ (((Memref.whole main_v0_scv)).view.loc (thr d L) ↦[(pieceM P).view.set]{Transfers.shareTokN q i} X)))
        (fun _ => iprop(semVal (thr d L, SemLoc.dma c) 0 ∗ bankP d L B f))) : sProp 𝕄)
      ⊢ if N then flightP d L q X B c i P else idleP d L q X B c i := by
  by_cases hC : C
  · rw [if_pos (h.mp hC), Guarded.pos hC]
    obtain rfl : G = (pieceM P).view.set := hG.trans (gset.pos hC)
    exact flight_start d L q X B c i P f
  · rw [if_neg (fun hn => hC (h.mpr hn)), Guarded.neg hC]
    obtain rfl : G = ∅ := hG.trans (gset.neg hC)
    rw [Finset.sdiff_empty]
    unfold idleP
    iintro ⟨Hx, Hc, Hb⟩
    isplitl [Hb]
    · iexists f; iexact Hb
    isplitl [Hc]
    · iexact Hc
    · iexact Hx

/-- The tile's slice of the result, filled. -/
theorem out_pts (fo : Buf (Elt F) ((outM L).view.loc (thr d L))) (g : Buf (Elt F) (((Memref.whole cc0_scratch1)).view.loc (thr d L))) (hg : Good d L X 33 g) :
    ((outM L).view.loc (thr d L) ↦[(outM L).view.set]{fullShare}
        (outM L).view.writes (Elt F) fo [⟨Rect.whole S8448, ReadAs.same.apply (((Memref.whole cc0_scratch1)).view.read (Elt F) g)⟩] : sProp 𝕄)
      ⊢ (outM L).view.loc (thr d L) ↦[(outM L).view.set]{fullShare} (scOut (F := F) X : S270336.Idx → F .f32) :=
  Entails.of_eq (pointsTo_congr (out_filled d L X fo g hg))

set_option maxHeartbeats 800000 in
theorem tile_run (O : CellTallies nD τ sig (HIx 1)) (W : Waits sig (HIx 1))
    (f0 : Buf (Elt F) (bank0.view.loc (thr d L))) (f1 : Buf (Elt F) (bank1.view.loc (thr d L))) (f2 : Buf (Elt F) (bank2.view.loc (thr d L)))
    (fs : Buf (Elt F) (((Memref.whole cc0_scratch1)).view.loc (thr d L))) (fo : Buf (Elt F) ((outM L).view.loc (thr d L))) :
    (iprop(Transfers.MayWaits (thr d L) (none : HIx 1) O
        ∗ (xTok d L q X 0 ∗ xTok d L q X 1 ∗ xTok d L q X 2)
        ∗ ((outM L).view.loc (thr d L) ↦[(outM L).view.set]{fullShare} fo)
        ∗ (bankP d L bank0 f0 ∗ bankP d L bank1 f1 ∗ bankP d L bank2 f2)
        ∗ (((Memref.whole cc0_scratch1)).view.loc (thr d L) ↦{fullShare} fs)
        ∗ (semVal (thr d L, SemLoc.dma cc0_scratch2.sem) 0 ∗ semVal (thr d L, SemLoc.dma cc0_scratch3.sem) 0
          ∗ semVal (thr d L, SemLoc.dma cc0_scratch4.sem) 0 ∗ semVal (thr d L, SemLoc.dma cc0_scoped0.sem) 0)
        ∗ owes (thr d L) O W) : sProp 𝕄)
      ⊢ wp frame (wpE (defs₀ (F := F)) 𝒱₀ (thr d L) none) Set.univ
          (cc0__sc_body L (Memref.whole main_v0_scv) (Memref.isWhole_whole _) (Memref.whole main_v1_scv) (Memref.isWhole_whole _) (Memref.whole cc0_scratch0) (Memref.isWhole_whole _) (Memref.whole cc0_scratch1) (Memref.isWhole_whole _)
            cc0_scratch2 cc0_scratch3 cc0_scratch4 cc0_scoped0)
          fun _ => iprop((xTok d L q X 0 ∗ xTok d L q X 1 ∗ xTok d L q X 2)
            ∗ ((outM L).view.loc (thr d L) ↦[(outM L).view.set]{fullShare} (scOut (F := F) X : S270336.Idx → F .f32))
            ∗ ((∃ f, bankP d L bank0 f) ∗ (∃ f, bankP d L bank1 f) ∗ ∃ f, bankP d L bank2 f)
            ∗ (∃ g, ((Memref.whole cc0_scratch1)).view.loc (thr d L) ↦{fullShare} g)
            ∗ (semVal (thr d L, SemLoc.dma cc0_scratch2.sem) 0 ∗ semVal (thr d L, SemLoc.dma cc0_scratch3.sem) 0
              ∗ semVal (thr d L, SemLoc.dma cc0_scratch4.sem) 0 ∗ semVal (thr d L, SemLoc.dma cc0_scoped0.sem) 0)
            ∗ ∃ W', owes (thr d L) O W') := by
  iintro ⟨#Hmw, ⟨Hx0, Hx1, Hx2⟩, Ho, ⟨Hb0, Hb1, Hb2⟩, Hs, ⟨Hc0, Hc1, Hc2, Hc3⟩, HO⟩
  sl_unfold [cc0__sc_body]
  sl_exec (disch := exact View.amount_pos _ _ (show 0 < S8x2048.numel by decide))
  sl_for (inv d L q X O) $$ [Hx0 Hx1 Hx2 Hb2 Hs Hc0 Hc1 Hc2 HO]
  case region =>
    intro t _
    have ht : t.val < 11 := trips1 ▸ t.isLt
    unfold inv
    rw [if_pos ht, if_pos ht]
    unfold flightP idleP
    iintro ⟨#Hmw, ⟨%f0, %hf0, Hc0, Hx0⟩, ⟨%f1, %hf1, Hc1, Hx1⟩, ⟨⟨%f2, Hb2⟩, Hc2, Hx2⟩, ⟨%g, Hs, %hg⟩, %W', HO⟩
    have hc1 := cond1_true t
    sl_exec (disch := exact View.amount_pos _ _ (show 0 < S8x2048.numel by decide))
    sl_for (innerInv d L bank0 f0 (pieceV X (base L + 3 * t.val))) $$ [Hc0_dst]
    case region =>
      intro k st
      unfold innerInv
      iintro ⟨Hb, %hst⟩
      subst hst
      sl_exec
      sl_step
      isplitl [Hb]
      · iexact Hb
      ipureintro
      exact stepT bank0 hf0 k.val k.isLt ![fun r => k0_off3 k (BitVec.ofNat 32 r.val), fun r => k0_off4 k (BitVec.ofNat 32 r.val), fun r => k0_off5 k (BitVec.ofNat 32 r.val), fun r => k0_off6 k (BitVec.ofNat 32 r.val), fun r => k0_off7 k (BitVec.ofNat 32 r.val), fun r => k0_off8 k (BitVec.ofNat 32 r.val), fun r => k0_off9 k (BitVec.ofNat 32 r.val), fun r => k0_off10 k (BitVec.ofNat 32 r.val)]
        (by intro s r; fin_cases s
            · exact k0_off3_eq k r
            · exact k0_off4_eq k r
            · exact k0_off5_eq k r
            · exact k0_off6_eq k r
            · exact k0_off7_eq k r
            · exact k0_off8_eq k r
            · exact k0_off9_eq k r
            · exact k0_off10_eq k r)
        (by intro s r; fin_cases s
            · exact k0_off3_inb k r
            · exact k0_off4_inb k r
            · exact k0_off5_inb k r
            · exact k0_off6_inb k r
            · exact k0_off7_inb k r
            · exact k0_off8_inb k r
            · exact k0_off9_inb k r
            · exact k0_off10_inb k r)
    · unfold innerInv
      isplitl [Hc0_dst]
      · iexact Hc0_dst
      ipureintro; rfl
    iintro %acc
    unfold innerInv
    iintro ⟨Hb0, %hacc⟩
    have hacc' : acc = accT (pieceV X (base L + 3 * t.val)) 128 := hacc
    clear hacc
    subst hacc'
    sl_exec (disch := exact View.amount_pos _ _ (show 0 < S8x2048.numel by decide))
    irename if1 => Hg0
    sl_for (innerInv d L bank1 f1 (pieceV X (base L + (3 * t.val + 1)))) $$ [Hc1_dst]
    case region =>
      intro k st
      unfold innerInv
      iintro ⟨Hb, %hst⟩
      subst hst
      sl_exec
      sl_step
      isplitl [Hb]
      · iexact Hb
      ipureintro
      exact stepT bank1 hf1 k.val k.isLt ![fun r => k0_off14 k (BitVec.ofNat 32 r.val), fun r => k0_off15 k (BitVec.ofNat 32 r.val), fun r => k0_off16 k (BitVec.ofNat 32 r.val), fun r => k0_off17 k (BitVec.ofNat 32 r.val), fun r => k0_off18 k (BitVec.ofNat 32 r.val), fun r => k0_off19 k (BitVec.ofNat 32 r.val), fun r => k0_off20 k (BitVec.ofNat 32 r.val), fun r => k0_off21 k (BitVec.ofNat 32 r.val)]
        (by intro s r; fin_cases s
            · exact k0_off14_eq k r
            · exact k0_off15_eq k r
            · exact k0_off16_eq k r
            · exact k0_off17_eq k r
            · exact k0_off18_eq k r
            · exact k0_off19_eq k r
            · exact k0_off20_eq k r
            · exact k0_off21_eq k r)
        (by intro s r; fin_cases s
            · exact k0_off14_inb k r
            · exact k0_off15_inb k r
            · exact k0_off16_inb k r
            · exact k0_off17_inb k r
            · exact k0_off18_inb k r
            · exact k0_off19_inb k r
            · exact k0_off20_inb k r
            · exact k0_off21_inb k r)
    · unfold innerInv
      isplitl [Hc1_dst]
      · iexact Hc1_dst
      ipureintro; rfl
    iintro %acc
    unfold innerInv
    iintro ⟨Hb1, %hacc⟩
    have hacc' : acc = accT (pieceV X (base L + (3 * t.val + 1))) 128 := hacc
    clear hacc
    subst hacc'
    sl_exec (disch := exact View.amount_pos _ _ (show 0 < S8x2048.numel by decide))
    irename if1 => Hg1
    unfold tile_run.sl.dma0_2
    ihave Hb2' := (bank_filled d L X bank2 bank2.view.junk (base L + (3 * t.val + 2))) $$ Hb2
    icases Hb2' with ⟨%f3, %hf2, Hb2⟩
    sl_for (innerInv d L bank2 f3 (pieceV X (base L + (3 * t.val + 2)))) $$ [Hb2]
    case region =>
      intro k st
      unfold innerInv
      iintro ⟨Hb, %hst⟩
      subst hst
      sl_exec
      sl_step
      isplitl [Hb]
      · iexact Hb
      ipureintro
      exact stepT bank2 hf2 k.val k.isLt ![fun r => k0_off23 k (BitVec.ofNat 32 r.val), fun r => k0_off24 k (BitVec.ofNat 32 r.val), fun r => k0_off25 k (BitVec.ofNat 32 r.val), fun r => k0_off26 k (BitVec.ofNat 32 r.val), fun r => k0_off27 k (BitVec.ofNat 32 r.val), fun r => k0_off28 k (BitVec.ofNat 32 r.val), fun r => k0_off29 k (BitVec.ofNat 32 r.val), fun r => k0_off30 k (BitVec.ofNat 32 r.val)]
        (by intro s r; fin_cases s
            · exact k0_off23_eq k r
            · exact k0_off24_eq k r
            · exact k0_off25_eq k r
            · exact k0_off26_eq k r
            · exact k0_off27_eq k r
            · exact k0_off28_eq k r
            · exact k0_off29_eq k r
            · exact k0_off30_eq k r)
        (by intro s r; fin_cases s
            · exact k0_off23_inb k r
            · exact k0_off24_inb k r
            · exact k0_off25_inb k r
            · exact k0_off26_inb k r
            · exact k0_off27_inb k r
            · exact k0_off28_inb k r
            · exact k0_off29_inb k r
            · exact k0_off30_inb k r)
    · unfold innerInv
      isplitl [Hb2]
      · iexact Hb2
      ipureintro; rfl
    iintro %acc
    unfold innerInv
    iintro ⟨Hb2, %hacc⟩
    have hacc' : acc = accT (pieceV X (base L + (3 * t.val + 2))) 128 := hacc
    clear hacc
    subst hacc'
    sl_exec (disch := exact View.amount_pos _ _ (show 0 < S8x2048.numel by decide))
    sl_step
    have hgood := good_piece d L X t 2 (good_piece d L X t 1 (good_piece d L X t 0 (Ls := []) hg))
    have e2 : k0_cond2 t = 1#1 ↔ t.val + 1 < 11 := (cond2_iff t).trans (by omega)
    have e3 : k0_cond3 t = 1#1 ↔ t.val + 1 < 11 := (cond3_iff t).trans (by omega)
    isplitr
    · iexact Hmw
    isplitl [Hx0 Hg0]
    · iapply (bank_next d L q X bank0 ⟨0, by decide⟩ 0 (base L + 3 * (t.val + 1)) f0 _ _ e2 _ rfl) $$ [Hx0 Hg0]
      isplitl [Hx0]
      · iexact Hx0
      · iexact Hg0
    isplitl [Hx1 Hg1]
    · iapply (bank_next d L q X bank1 ⟨1, by decide⟩ 1 (base L + (3 * (t.val + 1) + 1)) f1 _ _ e3 _ rfl) $$ [Hx1 Hg1]
      isplitl [Hx1]
      · iexact Hx1
      · iexact Hg1
    isplitl [Hb2 Hc2 Hx2]
    · isplitl [Hb2]
      · iexists f3; iexact Hb2
      isplitl [Hc2]
      · iexact Hc2
      · iexact Hx2
    isplitl [Hs]
    · iexists _
      isplitl [Hs]
      · iexact Hs
      · ipureintro; exact hgood
    · iexists _; iexact HO
  · unfold inv
    rw [if_pos (by decide), if_pos (by decide)]
    unfold idleP
    isplitr
    · iexact Hmw
    isplitl [Hc0 Hx0]
    · iapply (flight_start d L q X bank0 _ 0 (base L + 3 * 0) f0) $$ [Hc0 Hx0]
      isplitl [Hx0]
      · iexact Hx0
      · iexact Hc0
    isplitl [Hc1 Hx1]
    · iapply (flight_start d L q X bank1 _ 1 (base L + (3 * 0 + 1)) f1) $$ [Hc1 Hx1]
      isplitl [Hx1]
      · iexact Hx1
      · iexact Hc1
    isplitl [Hb2 Hc2 Hx2]
    · isplitl [Hb2]
      · iexists f2; iexact Hb2
      isplitl [Hc2]
      · iexact Hc2
      · iexact Hx2
    isplitl [Hs]
    · iexists fs
      isplitl [Hs]
      · iexact Hs
      · ipureintro; intro e he; omega
    · iexists _; iexact HO
  iintro %acc
  unfold inv
  rw [show Scf.trips k0_t1_loop.lb k0_t1_loop.ub k0_t1_loop.st = 11 from trips1]
  rw [if_neg (by decide), if_neg (by decide)]
  unfold idleP
  iintro ⟨-, ⟨⟨%f0', Hb0⟩, Hc0, Hx0⟩, ⟨⟨%f1', Hb1⟩, Hc1, Hx1⟩, ⟨⟨%f2', Hb2⟩, Hc2, Hx2⟩, ⟨%g, Hs, %hg⟩, %W', HO⟩
  sl_exec (disch := exact View.amount_pos _ _ (show 0 < S8448.numel by decide))
  sl_step
  isplitl [Hx0 Hx1 Hx2]
  · isplitl [Hx0]
    · iexact Hx0
    isplitl [Hx1]
    · iexact Hx1
    · iexact Hx2
  isplitl [Ho]
  · unfold tile_run.sl.dma0_3
    iapply (out_pts d L X fo g hg) $$ Ho
  isplitl [Hb0 Hb1 Hb2]
  · isplitl [Hb0]
    · iexists f0'; iexact Hb0
    isplitl [Hb1]
    · iexists f1'; iexact Hb1
    · iexists f2'; iexact Hb2
  isplitl [Hs]
  · iexists g; iexact Hs
  isplitl [Hc0 Hc1 Hc2 Hc3]
  · isplitl [Hc0]
    · iexact Hc0
    isplitl [Hc1]
    · iexact Hc1
    isplitl [Hc2]
    · iexact Hc2
    · iexact Hc3
  · iexists _; iexact HO

end Body

end Cert.Proof.Tile

end
-- ==== Proof.Task.lean ====
/-
  The SparseCore call's threads: what the launch hands a tile and takes back from it, the tile's obligation, and how
  the transposed input and the call's result are dealt to the 32 tiles and gathered from them.
-/
module

public import proofs.«01_k».proof.Proof.Tile

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs as the body table passes them

/-! ## The tile's own buffers and cells -/

section Own

variable (d : Dev nD) (L : grid0.Coords)

theorem bank_off_inb : ∀ (b : Fin 3) (a : Fin 3), (![b.val, 0, 0] : Fin 3 → ℕ) a + S1x8x2048.size a ≤ S3x8x2048.size a := by decide

/-- The elements of bank `b`. -/
def bankSet (b : Fin 3) : Finset (Idx (((Memref.whole cc0_scratch0)).view.loc (thr d L))) :=
  (Rect.unit (s := S3x8x2048) ![b.val, 0, 0] S1x8x2048.size (bank_off_inb b)).set

theorem banks_disjoint (b b' : Fin 3) (h : b ≠ b') : Disjoint (bankSet d L b) (bankSet d L b') :=
  Ring.lead_disjoint (s := S3x8x2048) 0 1 (fun b => ![b.val, 0, 0]) S1x8x2048.size bank_off_inb
    (fun b => (Nat.one_mul _).symm) rfl b b' h

theorem banks_cover : Finset.univ.biUnion (bankSet d L) = Finset.univ :=
  Ring.lead_cover (s := S3x8x2048) (NB := 3) 0 1 (fun b => ![b.val, 0, 0]) S1x8x2048.size bank_off_inb
    (fun b => (Nat.one_mul _).symm) (by intro b a ha; fin_cases a <;> first | exact absurd rfl ha | rfl) rfl
    (by intro a ha; fin_cases a <;> first | exact absurd rfl ha | rfl) rfl

theorem bank_set {b : Fin 3} {off : Fin 3 → ℕ} (h : off = ![b.val, 0, 0]) (inb) :
    ((((Memref.whole cc0_scratch0)).slice (Rect.unit (s := S3x8x2048) off S1x8x2048.size inb) (fun _ => rfl)).squeeze S8x2048 squeezes_S1x8x2048_S8x2048).view.set = bankSet d L b := by
  subst h
  simp only [Memref.view, View.set_reshape]
  show ((View.whole (cc0_scratch0 : Ref sig .scVector)).slice _).set = _
  rw [View.set_slice]
  exact Finset.map_refl

theorem bankP_eq0 (f) : bankP (F := F) d L bank0 f = (((Memref.whole cc0_scratch0)).view.loc (thr d L) ↦[bankSet d L 0]{fullShare} f : sProp 𝕄) := by
  exact congrArg (fun J => (((Memref.whole cc0_scratch0)).view.loc (thr d L) ↦[J]{fullShare} f : sProp 𝕄)) (bank_set d L (b := 0) rfl inb_S3x8x2048_S1x8x2048_0_0_0)
theorem bankP_eq1 (f) : bankP (F := F) d L bank1 f = (((Memref.whole cc0_scratch0)).view.loc (thr d L) ↦[bankSet d L 1]{fullShare} f : sProp 𝕄) := by
  exact congrArg (fun J => (((Memref.whole cc0_scratch0)).view.loc (thr d L) ↦[J]{fullShare} f : sProp 𝕄)) (bank_set d L (b := 1) rfl inb_S3x8x2048_S1x8x2048_1_0_0)
theorem bankP_eq2 (f) : bankP (F := F) d L bank2 f = (((Memref.whole cc0_scratch0)).view.loc (thr d L) ↦[bankSet d L 2]{fullShare} f : sProp 𝕄) := by
  exact congrArg (fun J => (((Memref.whole cc0_scratch0)).view.loc (thr d L) ↦[J]{fullShare} f : sProp 𝕄)) (bank_set d L (b := 2) rfl inb_S3x8x2048_S1x8x2048_2_0_0)

theorem banks_in : iprop(∃ f, ((Memref.whole cc0_scratch0)).view.loc (thr d L) ↦{fullShare} f)
    ⊢ (iprop((∃ f, bankP d L bank0 f) ∗ (∃ f, bankP d L bank1 f) ∗ ∃ f, bankP d L bank2 f) : sProp 𝕄) :=
  Ring.slots3_split (U := UU) (ℓ := ((Memref.whole cc0_scratch0)).view.loc (thr d L)) (q := fullShare) (bankSet d L) (banks_disjoint d L) (banks_cover d L)
    (bankP d L bank0) (bankP d L bank1) (bankP d L bank2) (bankP_eq0 d L) (bankP_eq1 d L) (bankP_eq2 d L)
theorem banks_out : (iprop((∃ f, bankP d L bank0 f) ∗ (∃ f, bankP d L bank1 f) ∗ ∃ f, bankP d L bank2 f) : sProp 𝕄)
    ⊢ iprop(∃ f, ((Memref.whole cc0_scratch0)).view.loc (thr d L) ↦{fullShare} f) :=
  Ring.slots3_join (U := UU) (ℓ := ((Memref.whole cc0_scratch0)).view.loc (thr d L)) (q := fullShare) (bankSet d L) (banks_disjoint d L) (banks_cover d L)
    (bankP d L bank0) (bankP d L bank1) (bankP d L bank2) (bankP_eq0 d L) (bankP_eq1 d L) (bankP_eq2 d L)

/-- The tile's four cells. -/
abbrev tCell (c : DmaSem sig) : GSem nD τ sig := (thr d L, SemLoc.dma c)

theorem mem_tCell (c : DmaSem sig) (h : (SemLoc.dma c : SemLoc sig).isScoped .scVector = true) : tCell d L c ∈ ownCells (thr d L) :=
  (mem_ownCells (g := tCell d L c)).mpr ⟨rfl, h⟩

theorem tCell_ne {c c' : DmaSem sig} (h : c ≠ c') : tCell d L c ≠ tCell d L c' := fun e => h (SemLoc.dma.inj (congrArg Prod.snd e))

theorem ownSems0_V :
    (ownSems0 (thr d L) : sProp 𝕄)
      = iprop(semVal (tCell d L cc0_scratch2.sem) 0 ∗ semVal (tCell d L cc0_scratch3.sem) 0 ∗ semVal (tCell d L cc0_scratch4.sem) 0
          ∗ semVal (tCell d L cc0_scoped0.sem) 0
          ∗ bigSep (((((ownCells (thr d L)).erase (tCell d L cc0_scratch2.sem)).erase (tCell d L cc0_scratch3.sem)).erase (tCell d L cc0_scratch4.sem)).erase
              (tCell d L cc0_scoped0.sem)) fun g => semVal g 0) := by
  unfold SparseCore.Cfg.ownSems0
  have m2 := mem_tCell d L cc0_scratch2.sem (by decide)
  have m3 := mem_tCell d L cc0_scratch3.sem (by decide)
  have m4 := mem_tCell d L cc0_scratch4.sem (by decide)
  have m0 := mem_tCell d L cc0_scoped0.sem (by decide)
  rw [SparseCore.bigSep_erase' m2,
    SparseCore.bigSep_erase' (Finset.mem_erase.mpr ⟨tCell_ne d L (by decide), m3⟩),
    SparseCore.bigSep_erase' (Finset.mem_erase.mpr ⟨tCell_ne d L (by decide), Finset.mem_erase.mpr ⟨tCell_ne d L (by decide), m4⟩⟩),
    SparseCore.bigSep_erase' (Finset.mem_erase.mpr ⟨tCell_ne d L (by decide), Finset.mem_erase.mpr ⟨tCell_ne d L (by decide),
      Finset.mem_erase.mpr ⟨tCell_ne d L (by decide), m0⟩⟩⟩)]

theorem ownBufs_V :
    (ownBufs (thr d L) : sProp 𝕄)
      = iprop((∃ f, ((Memref.whole cc0_scratch0)).view.loc (thr d L) ↦{fullShare} f) ∗ (∃ f, ((Memref.whole cc0_scratch1)).view.loc (thr d L) ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- A share of the transposed input as three read tokens and what remains of it. -/
theorem xToks (q : PosShare TreeShare) (f : Buf (Elt F) (xLoc d)) :
    (xLoc d ↦{q} f : sProp 𝕄) ⊣⊢ iprop((xLoc d ↦{Transfers.shareDrop q 3} f) ∗ (xTok d L q f 0 ∗ xTok d L q f 1 ∗ xTok d L q f 2)) := by
  have h : (xLoc d ↦{q} f : sProp 𝕄) ⊣⊢ iprop((xLoc d ↦{Transfers.shareDrop q 3} f) ∗ bigSep (Finset.range 3) fun i => xLoc d ↦{Transfers.shareTokN q i} f) :=
    Transfers.pointsTo_toks_range (ℓ := xLoc d) (S := Finset.univ) (f := f) q 3
  rw [show Finset.range 3 = {0, 1, 2} by decide, SparseCore.bigSep_insert' (by decide), SparseCore.bigSep_insert' (by decide), bigSep_singleton] at h
  exact h

end Own

/-! ## What the launch deals -/

/-- The tile's number. -/
def wid (L : grid0.Coords) : ℕ := 2 * (L 1).val + (L 0).val

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

variable [FloatOps F]
variable (X : (d : Dev nD) → Buf (Elt F) (xLoc d)) (Y : (d : Dev nD) → Buf (Elt F) (oLoc d))

/-- Tile `L`'s read share of the transposed input, and its slice of the result. -/
def xPart (d : Dev nD) (L : grid0.Coords) : sProp 𝕄 := xLoc d ↦{Transfers.shareTokN fullShare (wid L)} X d
def oPart (d : Dev nD) (L : grid0.Coords) (f : Buf (Elt F) (oLoc d)) : sProp 𝕄 := oLoc d ↦[(outM L).view.set]{fullShare} f
/-- The call's result from the transposed input. -/
def scOutB (d : Dev nD) : Buf (Elt F) (oLoc d) := (scOut (F := F) (X d) : S270336.Idx → F .f32)

def goP (d : Dev nD) (L : grid0.Coords) : sProp 𝕄 := iprop(xPart X d L ∗ oPart d L (Y d))
def tdP (d : Dev nD) (L : grid0.Coords) : sProp 𝕄 := iprop(xPart X d L ∗ oPart d L (scOutB X d))

instance goP_storable (d : Dev nD) (L : grid0.Coords) : BI.Storable (upEmb : UEmb _ 𝕄) (goP X Y d L) := by unfold goP xPart oPart; infer_instance
instance tdP_storable (d : Dev nD) (L : grid0.Coords) : BI.Storable (upEmb : UEmb _ 𝕄) (tdP X d L) := by unfold tdP xPart oPart; infer_instance

/-- The tile of the call's grid. -/
def gridL (c : Fin ((K (F := F)).nCore 0)) (i : Fin ((K (F := F)).nSub 0)) : grid0.Coords := coordsV ⟨c.val, c.isLt⟩ ⟨i.val, i.isLt⟩

def P : (K (F := F)).Pay (nD := nD) (Val := Elt F) (Name := ℕ) (U := UU) where
  st := fun q d c => match q with | 0 => bigSep Finset.univ fun i => goP X Y d (gridL (F := F) c i)
  dn := fun q d c => match q with | 0 => bigSep Finset.univ fun i => tdP X d (gridL (F := F) c i)
  go := fun q d c i => match q with | 0 => goP X Y d (gridL (F := F) c i)
  td := fun q d c i => match q with | 0 => tdP X d (gridL (F := F) c i)
  x := fun _ _ => iprop(emp)

instance P_storable : (P X Y).IsStorable where
  st q d c := match q with
    | 0 => (inferInstance : BI.Storable (upEmb : UEmb _ 𝕄) (bigSep Finset.univ fun i => goP X Y d (gridL (F := F) c i)))
  dn q d c := match q with
    | 0 => (inferInstance : BI.Storable (upEmb : UEmb _ 𝕄) (bigSep Finset.univ fun i => tdP X d (gridL (F := F) c i)))
  go q d c i := match q with
    | 0 => (inferInstance : BI.Storable (upEmb : UEmb _ 𝕄) (goP X Y d (gridL (F := F) c i)))
  td q d c i := match q with
    | 0 => (inferInstance : BI.Storable (upEmb : UEmb _ 𝕄) (tdP X d (gridL (F := F) c i)))

theorem vecSplit : (K (F := F)).VecSplit' (P X Y) 0 := by
  intro d c
  show (bigSep Finset.univ fun i => goP X Y d (gridL (F := F) c i))
    ⊢ |={Set.univ}=> iprop((bigSep Finset.univ fun i => goP X Y d (gridL (F := F) c i))
      ∗ ((bigSep Finset.univ fun i => tdP X d (gridL (F := F) c i)) -∗ (bigSep Finset.univ fun i => tdP X d (gridL (F := F) c i))))
  iintro H
  imodintro
  isplitl [H]; · iexact H
  iintro H; iexact H

/-! ## The tile's obligation -/

theorem tile_body (d : Dev nD) (L : grid0.Coords) (O : CellTallies nD τ sig (HIx 1)) (W : Waits sig (HIx 1)) (hO : ∀ g, O g none = 0) :
    iprop(levAts (K (F := F)).L (K (F := F)).lev ∗ emp ∗ goP X Y d L
        ∗ scopedBufs (thr d L) ∗ scopedSems0 (thr d L) ∗ owes (thr d L) O W)
      ⊢ wp frame (wpE (defs₀ (F := F)) 𝒱₀ (thr d L) none) Set.univ
          (cc0__sc_body L (Memref.whole main_v0_scv) (Memref.isWhole_whole _) (Memref.whole main_v1_scv) (Memref.isWhole_whole _) (Memref.whole cc0_scratch0) (Memref.isWhole_whole _) (Memref.whole cc0_scratch1) (Memref.isWhole_whole _)
            cc0_scratch2 cc0_scratch3 cc0_scratch4 cc0_scoped0)
          fun _ => iprop(tdP X d L ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V facts d (cV L) (jV L), SparseCore.Cfg.scopedSems0_V (Val := Elt F) d (cV L) (jV L), ownSems0_V, ownBufs_V]
  unfold goP tdP xPart oPart
  iintro ⟨#Hlv, -, ⟨Hx, Ho⟩, ⟨HB, ⟨%fs, Hs⟩, Hbufs⟩, ⟨Hc2, Hc3, Hc4, Hc0, Hsems⟩, HO⟩
  ihave Hmw := (show levAts (K (F := F)).L (K (F := F)).lev ⊢ Transfers.MayWaits (thr d L) (none : HIx 1) O from
    (K (F := F)).mayWaits_none (thr := thr d L) hO) $$ Hlv
  ihave HB' := (banks_in (F := F) d L) $$ HB
  icases HB' with ⟨⟨%f0, Hb0⟩, ⟨%f1, Hb1⟩, ⟨%f2, Hb2⟩⟩
  ihave Hx' := (xToks d L (Transfers.shareTokN fullShare (wid L)) (X d)).1 $$ Hx
  icases Hx' with ⟨Hxr, Hx⟩
  iapply (wp_wand_r Idealize.ShloMosaic.frame (wpE (defs₀ (F := F)) 𝒱₀ (thr d L) none) Set.univ)
  isplitl [Hx Ho Hb0 Hb1 Hb2 Hs Hc2 Hc3 Hc4 Hc0 HO]
  · iapply (tile_run d L (Transfers.shareTokN fullShare (wid L)) (X d) O W f0 f1 f2 fs (Y d))
    isplitr; · iexact Hmw
    isplitl [Hx]; · iexact Hx
    isplitl [Ho]; · iexact Ho
    isplitl [Hb0 Hb1 Hb2]
    · isplitl [Hb0]; · iexact Hb0
      isplitl [Hb1]; · iexact Hb1
      iexact Hb2
    isplitl [Hs]; · iexact Hs
    isplitl [Hc2 Hc3 Hc4 Hc0]
    · isplitl [Hc2]; · iexact Hc2
      isplitl [Hc3]; · iexact Hc3
      isplitl [Hc4]; · iexact Hc4
      iexact Hc0
    iexact HO
  iintro %_ ⟨Hx, Ho, HB, ⟨%g, Hs⟩, ⟨Hc2, Hc3, Hc4, Hc0⟩, ⟨%W', HO⟩⟩
  ihave Hx' := (xToks d L (Transfers.shareTokN fullShare (wid L)) (X d)).2 $$ [Hxr Hx]
  · isplitl [Hxr]; · iexact Hxr
    iexact Hx
  ihave HB' := (banks_out (F := F) d L) $$ HB
  isplitl [Hx' Ho]
  · isplitl [Hx']; · iexact Hx'
    iexact Ho
  isplitl [HB' Hs Hbufs]
  · isplitl [HB']; · iexact HB'
    isplitl [Hs]; · iexists g; iexact Hs
    iexact Hbufs
  isplitl [Hc2 Hc3 Hc4 Hc0 Hsems]
  · isplitl [Hc2]; · iexact Hc2
    isplitl [Hc3]; · iexact Hc3
    isplitl [Hc4]; · iexact Hc4
    isplitl [Hc0]; · iexact Hc0
    iexact Hsems
  iexists W'; isplitr
  · ipureintro; intro p _
    rcases p.2 with _ | q
    · exact .inr (.inl rfl)
    · exact .inr (.inr (congrArg some (Subsingleton.elim q 0)))
  · iexact HO

theorem defs₀_vector (c : Fin τ.nSC) (s : Fin τ.nSub) :
    defs₀ (F := F) (.scVector c s) 0 ()
      = SparseCore.onTile hcore0 hsub0 (fun c s => cc0__sc_body (coordsV c s) (Memref.whole main_v0_scv) (Memref.isWhole_whole _) (Memref.whole main_v1_scv) (Memref.isWhole_whole _)
          (Memref.whole cc0_scratch0) (Memref.isWhole_whole _) (Memref.whole cc0_scratch1) (Memref.isWhole_whole _) cc0_scratch2 cc0_scratch3 cc0_scratch4 cc0_scoped0) ⟨⟩ c s := rfl

theorem tileObl : (K (F := F)).TileObl (D (F := F)) 𝒱 (P X Y) v₀ 0 := by
  intro d c i O W hO _ _
  simp only [show (P X Y).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hb := tile_body X Y d (coordsV ⟨_, hci.1⟩ ⟨_, hci.2⟩) O W hO
  rw [defs₀_vector]; simp only [SparseCore.onTile, hci, and_self, ↓reduceDIte]
  generalize (cc0__sc_body (F := F) _ _ _ _ _ _ _ _ _ _ _ _ _) = p at hb ⊢
  exact hb

/-! ## The arrays dealt to the 32 tiles and gathered from them -/

theorem out_off_inb (n : Fin 32) (a : Fin 1) : (![8448 * n.val] : Fin 1 → ℕ) a + S8448.size a ≤ S270336.size a := by
  fin_cases a; have := n.isLt; simp; omega

/-- The elements of slice `n` of the result. -/
def outSet (d : Dev nD) (n : Fin 32) : Finset (Idx (oLoc d)) := (Rect.unit (s := S270336) ![8448 * n.val] S8448.size (out_off_inb n)).set

theorem outs_disjoint (d : Dev nD) (b b' : Fin 32) (h : b ≠ b') : Disjoint (outSet d b) (outSet d b') :=
  Ring.lead_disjoint (s := S270336) 0 8448 (fun b => ![8448 * b.val]) S8448.size out_off_inb (fun _ => rfl) rfl b b' h
theorem outs_cover (d : Dev nD) : Finset.univ.biUnion (outSet d) = Finset.univ :=
  Ring.lead_cover (s := S270336) (NB := 32) 0 8448 (fun b => ![8448 * b.val]) S8448.size out_off_inb
    (fun _ => rfl) (by intro b a ha; exact absurd (Subsingleton.elim a 0) ha) rfl
    (by intro a ha; exact absurd (Subsingleton.elim a 0) ha) rfl

theorem wid_lt (L : grid0.Coords) : wid L < 32 := by
  have h0 : (L 0).val < 2 := (L 0).isLt
  have h1 : (L 1).val < 16 := (L 1).isLt
  unfold wid; omega

theorem out_set_eq (d : Dev nD) (L : grid0.Coords) : (outM L).view.set = outSet d ⟨wid L, wid_lt L⟩ := by
  have ho : k0_off31 L = ![8448 * wid L] := by
    rw [k0_off31_eq]; funext a
    obtain rfl : a = 0 := Subsingleton.elim _ _
    show 16896 * (L 1).val + 8448 * (L 0).val = 8448 * wid L
    unfold wid; omega
  show ((View.whole (main_v1_scv : Ref sig .scVector)).slice _).set = _
  rw [View.set_slice]
  refine Finset.map_refl.trans ?_
  unfold outSet
  ext i
  rw [Rect.mem_set_unit, Rect.mem_set_unit, ho]
  rfl

/-- Thirty-two things dealt by SparseCore and tile. -/
theorem bigSep_tiles (Φ : ℕ → sProp 𝕄) :
    (bigSep Finset.univ fun c : Fin ((K (F := F)).nCore 0) => bigSep Finset.univ fun i : Fin ((K (F := F)).nSub 0) => Φ (wid (gridL (F := F) c i)))
      = bigSep (Finset.range 32) Φ := by
  show (bigSep Finset.univ fun c : Fin 2 => bigSep Finset.univ fun i : Fin 16 => Φ (2 * i.val + c.val)) = _
  rw [← bigSep_univ_prod (fun p : Fin 2 × Fin 16 => Φ (2 * p.2.val + p.1.val)),
    show Finset.range 32 = Finset.univ.map ⟨fun p : Fin 2 × Fin 16 => 2 * p.2.val + p.1.val, by
      intro p p' h; simp only at h; have := p.1.isLt; have := p'.1.isLt; exact Prod.ext (Fin.ext (by omega)) (Fin.ext (by omega))⟩ by decide, bigSep_map]
  rfl

theorem bigSep_fin32 (Φ : ℕ → sProp 𝕄) : (bigSep Finset.univ fun n : Fin 32 => Φ n.val) = bigSep (Finset.range 32) Φ := by
  rw [← Nat.Iio_eq_range, ← Fin.map_valEmbedding_univ, BI.bigSep_map]; rfl

theorem out_tiles (d : Dev nD) (f : Buf (Elt F) (oLoc d)) :
    (bigSep Finset.univ fun c : Fin ((K (F := F)).nCore 0) => bigSep Finset.univ fun i : Fin ((K (F := F)).nSub 0) => oPart d (gridL (F := F) c i) f)
      = (oLoc d ↦{fullShare} f : sProp 𝕄) := by
  have e1 := bigSep_tiles (F := F) (fun n => if h : n < 32 then (oLoc d ↦[outSet d ⟨n, h⟩]{fullShare} f : sProp 𝕄) else iprop(emp))
  have e2 := bigSep_fin32 (F := F) (fun n => if h : n < 32 then (oLoc d ↦[outSet d ⟨n, h⟩]{fullShare} f : sProp 𝕄) else iprop(emp))
  have e3 := Ring.pointsTo_blocks (Ix := HIx 1) (Val := Elt F) (Name := ℕ) (U := UU) (Lvl := ℕ) (q := fullShare) (outSet d) (outs_disjoint d) (outs_cover d) f
  rw [← e2] at e1
  refine Eq.trans ?_ (e1.trans (Eq.trans ?_ e3.symm))
  · refine bigSep_congr fun c _ => bigSep_congr fun i _ => ?_
    rw [dif_pos (wid_lt _)]; unfold oPart; rw [out_set_eq d]
  · exact bigSep_congr fun n _ => dif_pos n.isLt

/-- The whole input's read shares dealt to the tiles, what is left of it kept aside; with the result's slices. -/
theorem deal (d : Dev nD) :
    iprop((xLoc d ↦{fullShare} X d) ∗ (oLoc d ↦{fullShare} Y d))
      ⊢ (iprop((xLoc d ↦{Transfers.shareDrop fullShare 32} X d)
          ∗ bigSep Finset.univ fun c : Fin ((K (F := F)).nCore 0) => (P X Y).st 0 d c) : sProp 𝕄) := by
  show _ ⊢ iprop(_ ∗ bigSep Finset.univ fun c : Fin ((K (F := F)).nCore 0) => bigSep Finset.univ fun i => goP X Y d (gridL (F := F) c i))
  unfold goP
  simp only [bigSep_sep']
  rw [out_tiles]
  unfold xPart
  rw [bigSep_tiles (F := F) fun n => (xLoc d ↦{Transfers.shareTokN fullShare n} X d : sProp 𝕄)]
  iintro ⟨Hx, Ho⟩
  ihave Hx := (Transfers.pointsTo_toks_range (ℓ := xLoc d) (S := Finset.univ) (f := X d) fullShare 32).1 $$ Hx
  icases Hx with ⟨Hr, Hx⟩
  isplitl [Hr]; · iexact Hr
  isplitl [Hx]; · iexact Hx
  iexact Ho

theorem gather (d : Dev nD) :
    (iprop((xLoc d ↦{Transfers.shareDrop fullShare 32} X d)
          ∗ bigSep Finset.univ fun c : Fin ((K (F := F)).nCore 0) => (P X Y).dn 0 d c) : sProp 𝕄)
      ⊢ iprop((xLoc d ↦{fullShare} X d) ∗ (oLoc d ↦{fullShare} scOutB X d)) := by
  show iprop(_ ∗ bigSep Finset.univ fun c : Fin ((K (F := F)).nCore 0) => bigSep Finset.univ fun i => tdP X d (gridL (F := F) c i)) ⊢ _
  unfold tdP
  simp only [bigSep_sep']
  rw [out_tiles]
  unfold xPart
  rw [bigSep_tiles (F := F) fun n => (xLoc d ↦{Transfers.shareTokN fullShare n} X d : sProp 𝕄)]
  iintro ⟨Hr, Hx, Ho⟩
  isplitl [Hr Hx]
  · iapply (Transfers.pointsTo_toks_range (ℓ := xLoc d) (S := Finset.univ) (f := X d) fullShare 32).2
    isplitl [Hr]; · iexact Hr
    iexact Hx
  iexact Ho

end Cert.Proof.Tile

end
-- ==== Proof.Region.lean ====
/-
  A TensorCore kernel region of the host program, as a step of the TensorCore's thread: entered from the arrays of its
  windows at a valuation, left with each array at contents that it may hold after the write-backs.
-/
module

public import proofs.«01_k».proof.Proof.Task
public import Idealize.ShloMosaic.Lib.Pipeline.RegionArrays
public import Idealize.ShloMosaic.Lib.Pipeline.ArrRel

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat pin arrRef arrRefs scopedRest)

variable {F : FTy → Type}

local notation "𝕄" => MT nD τ sig (HIx 1) (Elt F) ℕ UU ℕ

variable [FloatOps F]

/-- The pipelines prefetch no table. -/
abbrev adm (p : Fin 2) : (pcfgs (F := F) p).Adm := (cfgs p).toPCfg_adm

/-- The waits a TensorCore may have recorded once the SparseCore call is over. -/
def recB (d : Dev nD) : Set (SemLoc sig × HIx 1) := {w | (K (F := F)).lev (T d, w.1) w.2 ≤ 8 * 1}

/-- The TensorCore owing nothing, its recorded waits within that bound. -/
def owesB (d : Dev nD) : sProp 𝕄 := iprop(∃ W, ⌜(K (F := F)).WBelow (T d) W (8 * 1)⌝ ∗ owes (T d) (0 : CellTallies nD τ sig (HIx 1)) W)

/-- The contents of the arrays of the windows of pipeline `p`. -/
abbrev Arrs (p : Fin 2) (d : Dev nD) : Type :=
  (w : Fin (pin (pcfgs (F := F)) adm p).W) → Buf (Elt F) ((d.tc : Thread nD τ).loc (arrRef (pin (pcfgs (F := F)) adm p).spec w))

/-- The arrays of the windows of pipeline `p`, whole, at contents `G`. -/
def arrPts (p : Fin 2) (d : Dev nD) (G : Arrs (F := F) p d) : sProp 𝕄 :=
  bigSep Finset.univ fun w => (((d.tc : Thread nD τ).loc (arrRef (pin (pcfgs (F := F)) adm p).spec w)) ↦{fullShare} G w : sProp 𝕄)

/-- The relational data of one pipeline on every core: it owes nothing, holds the buffers no window stages, and enters
    its arrays at `A`. -/
def rdOf (p : Fin 2) (A : (c : Dev nD) → Arrs (F := F) p c)
    (after : (c : Dev nD) → (w : Fin (pin (pcfgs (F := F)) adm p).W) → Fin (pin (pcfgs (F := F)) adm p).N →
      (Y X : ((pin (pcfgs (F := F)) adm p).win w).block.Idx → Elt F ((pin (pcfgs (F := F)) adm p).win w).elt) → Prop) (c : Dev nD) :
    RDat τ (Elt F) (HIx 1) ℕ UU ℕ (pin (pcfgs (F := F)) adm p) c where
  A := A c
  after := after c
  Φ _ := scopedRest (pin (pcfgs (F := F)) adm p).spec c
  q _ := fullShare
  owed _ := 0
  recorded _ := recB (F := F) c

variable (p : Fin 2)
  (rds : (q : Fin 2) → (c : Dev nD) → RDat τ (Elt F) (HIx 1) ℕ UU ℕ (pin (pcfgs (F := F)) adm q) c)

/-- The region of pipeline `p` over such data. -/
def regionSeg (A : (c : Dev nD) → Arrs (F := F) p c)
    (after : (c : Dev nD) → (w : Fin (pin (pcfgs (F := F)) adm p).W) → Fin (pin (pcfgs (F := F)) adm p).N →
      (Y X : ((pin (pcfgs (F := F)) adm p).win w).block.Idx → Elt F ((pin (pcfgs (F := F)) adm p).win w).elt) → Prop)
    (hrd : ∀ c, rds p c = rdOf p A after c)
    (kit : Pipeline.PLaunchFacts (nD := nD) (τ := τ) (pcfgs (F := F)) p)
    (hbody : ∀ c, (rdOf p A after c).BodyObligation (defs₀ (F := F)) 𝒱₀ (none : HIx 1) Set.univ) :
    RDat.RegionSeg (pcfgs (F := F)) adm rds (none : HIx 1) (defs₀ (F := F)) 𝒱₀ (K (F := F)).L (K (F := F)).lev p where
  win := kit.win.to₀
  block_pos := kit.block_pos
  stage_whole := kit.stage_whole
  K := PEmpty
  osem k := k.elim
  ho := Pipeline.OwnSemFacts.none _
  hbody c := by rw [hrd c]; exact hbody c
  hwaits c := RDat.hwaits_of_owed_zero (pcfgs (F := F)) adm rds (none : HIx 1) _ _ p (fun c t => by rw [hrd c]; rfl) c
  pre c := iprop(arrPts p c (A c) ∗ owesB c)
  post c := iprop(∃ G : Arrs (F := F) p c, ⌜∀ w, (rdOf p A after c).ArrAt w (pin (pcfgs (F := F)) adm p).N (G w)⌝ ∗ arrPts p c G ∗ owesB c)
  X _ := iprop(emp)
  Y _ := iprop(emp)
  Z _ := iprop(emp)
  hentry c := by
    rw [Pipeline.ownSems0_none, Pipeline.prefHeld_of_none _ rfl, RDat.arrays_eq (pcfgs (F := F)) adm rds p c kit.arr_whole
      (fun w => by rw [hrd c]; unfold RDat.share rdOf; split <;> rfl)]
    unfold arrPts owesB
    rw [hrd c]
    iintro ⟨⟨Ha, HO⟩, -, -⟩
    imodintro
    isplitl [Ha]; · iexact Ha
    isplitr; · iempintro
    isplitl [HO]
    · unfold RDat.owesAt Pipeline.owesWithin RDat.bound
      icases HO with ⟨%W, %hW, HO⟩; iexists W; isplitr; · ipureintro; exact fun w hw => Or.inl (hW w hw)
      iexact HO
    isplitr <;> iempintro
  hin c := by
    rw [Pipeline.prefHeld_of_none _ rfl, hrd c]
    show _ ⊢ scopedRest (pin (pcfgs (F := F)) adm p).spec c
    iintro ⟨-, -, H⟩
    iexact H
  hout c := by
    rw [Pipeline.ownSems0_none, hrd c]
    show scopedRest (pin (pcfgs (F := F)) adm p).spec c ⊢ _
    iintro H
    isplitr; · iempintro
    isplitr; · iempintro
    iexact H
  hexit c := by
    rw [RDat.arraysAt_eq (pcfgs (F := F)) adm rds p c kit.arr_whole
      (fun w => by rw [hrd c]; unfold RDat.share rdOf; split <;> rfl), hrd c]
    unfold arrPts owesB
    iintro ⟨Ha, HO, -, -⟩
    imodintro
    ihave Ha := (bigSep_exists_pi Finset.univ fun (w : Fin (pin (pcfgs (F := F)) adm p).W)
      (f : Buf (Elt F) ((c.tc : Thread nD τ).loc (arrRef (pin (pcfgs (F := F)) adm p).spec w))) =>
        iprop(⌜(rdOf p A after c).ArrAt w (pin (pcfgs (F := F)) adm p).N f⌝ ∗ (((c.tc : Thread nD τ).loc (arrRef (pin (pcfgs (F := F)) adm p).spec w)) ↦{fullShare} f : sProp 𝕄))) $$ Ha
    icases Ha with ⟨%G, Ha⟩
    ihave Ha := (bigSep_pure_sep Finset.univ _ _) $$ Ha
    icases Ha with ⟨%hp, Ha⟩
    iexists G
    isplitr; · ipureintro; exact fun w => hp w (Finset.mem_univ _)
    isplitl [Ha]; · iexact Ha
    unfold RDat.owesAt Pipeline.owesWithin RDat.bound
    icases HO with ⟨%W, %hW, HO⟩; iexists W
    isplitr
    · ipureintro
      intro w hw
      rcases hW hw with h | ⟨_, _, h⟩
      · exact h
      · rw [h]; exact Nat.zero_le _
    iexact HO

/-- The custom call of pipeline `p` in the launched program: from its arrays at `A`, its ghost state and an idle core, to
    its arrays at contents that the write-backs may leave. -/
theorem wp_region (A : (c : Dev nD) → Arrs (F := F) p c)
    (after : (c : Dev nD) → (w : Fin (pin (pcfgs (F := F)) adm p).W) → Fin (pin (pcfgs (F := F)) adm p).N →
      (Y X : ((pin (pcfgs (F := F)) adm p).win w).block.Idx → Elt F ((pin (pcfgs (F := F)) adm p).win w).elt) → Prop)
    [∀ e, Nonempty (Elt F e)]
    (kit : Pipeline.PLaunchFacts (nD := nD) (τ := τ) (pcfgs (F := F)) p)
    (hbody : ∀ c, (rdOf p A after c).BodyObligation (defs₀ (F := F)) 𝒱₀ (none : HIx 1) Set.univ)
    (d : Dev nD) (Q : Unit → sProp 𝕄) :
    iprop(((∃ G : Arrs (F := F) p d, ⌜∀ w, (rdOf p A after d).ArrAt w (pin (pcfgs (F := F)) adm p).N (G w)⌝
          ∗ boundary (SparseCore.T d) ∗ arrPts p d G ∗ owesB d) -∗ Q ⟨⟩)
        ∗ boundary (SparseCore.T d) ∗ arrPts p d (A d) ∗ owesB d ∗ levAts (K (F := F)).L (K (F := F)).lev
        ∗ Pipeline.cellsGhost (pin (pcfgs (F := F)) adm) EP p d ∗ Pipeline.toksInit (pin (pcfgs (F := F)) adm) EP p d)
      ⊢ wp frame (wpE ((K (F := F)).defs (D (F := F))) 𝒱 (SparseCore.T d) none) Set.univ
          (Prog.lift (.customCall (SparseCore.inner (Pipeline.entry p)) ())) Q := by
  refine BIBase.Entails.trans ?_ ((K (F := F)).wp_liftProg (D (F := F)) 𝒱 (SparseCore.T d) Set.univ none
    (Prog.lift (.customCall (Pipeline.entry p) ())) Q)
  refine BIBase.Entails.trans ?_ ((regionSeg p (RDat.familyOf (pcfgs (F := F)) adm p (rdOf p A after)) A after
    (fun c => RDat.familyOf_self (pcfgs (F := F)) adm p (rdOf p A after) c) kit hbody).wp _ _ _ _ (kit.cellOf_inj adm) EP _ _ _ _ d none
      (fun _ h => nomatch h) (fun x => .ret x) Q)
  dsimp only [regionSeg]
  iintro ⟨HQ, Hb, Ha, HO, HL, Hg, Ht⟩
  isplitl [HQ]
  · iintro ⟨Hb, H⟩
    rw [wp_ret]
    imodintro
    icases H with ⟨%G, %hG, Ha, HO⟩
    iapply HQ
    iexists G
    isplitr; · ipureintro; exact hG
    isplitl [Hb]; · iexact Hb
    isplitl [Ha]; · iexact Ha
    iexact HO
  isplitl [Hb]; · iexact Hb
  isplitl [Ha HO]
  · isplitl [Ha]; · iexact Ha
    iexact HO
  isplitl [HL]; · iexact HL
  isplitl [Hg]; · iexact Hg
  iexact Ht

end Cert.Proof.Tile

end
-- ==== Proof.Cc1.lean ====
/-
  The bodies of the two TensorCore kernels, on any whole staging buffers.
-/
module

public import proofs.«01_k».proof.Proof.Region

@[expose] public section

noncomputable section

namespace Cert.Proof.Tile

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type}

local notation "𝕄" => MT nD τ sig (HIx 1) (Elt F) ℕ UU ℕ

variable [FloatOps F]

omit [FloatOps F] in
/-- A rectangle of the whole shape moves no index. -/
theorem unit0_idx {s : Shape} {off : Fin s.rank → Nat} (h : off = fun _ => 0) (inb : ∀ a, off a + s.size a ≤ s.size a) (x : s.Idx) :
    (Rect.unit off s.size inb).toLoadRect.idx x = x := by
  subst h; exact funext fun a => Fin.ext (by show 0 + 1 * (x a).val = _; omega)

/-- A load of the whole of a view reads it, -/
theorem readAt0 {κ : Kind} {sp : Space} {s : Shape} {e : EltTy} (v : View sig κ sp s e) {off : Fin s.rank → Nat}
    (h : off = fun _ => 0) (inb : ∀ a, off a + s.size a ≤ s.size a) (f : v.ty.Contents (Elt F)) :
    v.readAt (Elt F) (Rect.unit off s.size inb).toLoadRect f = v.read (Elt F) f :=
  funext fun x => congrArg (v.read (Elt F) f) (unit0_idx h inb x)

/-- and a store to the whole of it is what it then reads. -/
theorem read_store0 {κ : Kind} {sp : Space} {s : Shape} {e : EltTy} (v : View sig κ sp s e) {off : Fin s.rank → Nat}
    (h : off = fun _ => 0) (inb : ∀ a, off a + s.size a ≤ s.size a) (f : v.ty.Contents (Elt F)) (x : s.Idx → Elt F e) :
    v.read (Elt F) (v.writes (Elt F) f [⟨Rect.unit off s.size inb, x⟩]) = x := by
  funext y
  have := View.read_writes_cons_emb v f (Rect.unit off s.size inb) x [] y
  rwa [show (Rect.unit off s.size inb).emb y = y from unit0_idx h inb y] at this

/-- The TensorCore's partial sums of one block, on any whole staging buffers. -/
theorem cc1_run (c : Dev nD) (i : grid1.Coords) (M1 : Memref sig .tc .vmem S3x8x16384 .f32) (h1 : M1.IsWhole)
    (M2 : Memref sig .tc .vmem S1x3x8 .f32) (h2 : M2.IsWhole) (M3 : Memref sig .tc .vmem S1x3x8 .f32) (h3 : M3.IsWhole)
    (Y1 : S3x8x16384.Idx → F .f32) (Y2 Y3 : S1x3x8.Idx → F .f32) (E : Set ℕ) (Q : Unit → sProp 𝕄) :
    iprop((owns (c.tc : Thread nD τ) M1 fullShare Y1 ∗ owns (c.tc : Thread nD τ) M2 fullShare Y2 ∗ owns (c.tc : Thread nD τ) M3 fullShare Y3)
      ∗ (owns (c.tc : Thread nD τ) M1 fullShare Y1 ∗ owns (c.tc : Thread nD τ) M2 fullShare (k1_pay2 Y1)
          ∗ owns (c.tc : Thread nD τ) M3 fullShare (k1_pay3 Y1) -∗ Q ⟨⟩))
      ⊢ wp frame (wpE (defs₀ (F := F)) Variants.none (c.tc : Thread nD τ) none) E (cc1__tc_partial_body i M1 h1 M2 h2 M3 h3) Q := by
  unfold owns
  iintro ⟨⟨⟨%f1, %e1, H1⟩, ⟨%f2, -, H2⟩, ⟨%f3, -, H3⟩⟩, Hk⟩
  obtain rfl := h1.eq_unread e1
  sl_exec!
  sl_step
  iapply Hk
  isplitl [H1]
  · iexists _; isplitr; swap; (· iexact H1); ipureintro; exact e1
  isplitl [H2]
  · iexists _; isplitr; swap; (· iexact H2); ipureintro
    unfold cc1_run.sl.H2_1
    refine (read_store0 _ (by decide) _ _ _).trans (congrArg k1_pay2 ?_)
    exact (readAt0 _ (by decide) _ _).trans e1
  · iexists _; isplitr; swap; (· iexact H3); ipureintro
    unfold cc1_run.sl.H3_1
    refine (read_store0 _ (by decide) _ _ _).trans (congrArg k1_pay3 ?_)
    exact (readAt0 _ (by decide) _ _).trans e1

/-- The finalisation, on any whole staging buffers. -/
theorem cc2_run (c : Dev nD) (M0 : Memref sig .tc .vmem S132x2048 .f32) (h0 : M0.IsWhole)
    (M1 : Memref sig .tc .vmem S24x3x8 .f32) (h1 : M1.IsWhole) (M2 : Memref sig .tc .vmem S24x3x8 .f32) (h2 : M2.IsWhole)
    (M3 : Memref sig .tc .vmem S132x16 .f32) (h3 : M3.IsWhole) (M4 : Memref sig .tc .vmem S72x16 .f32) (h4 : M4.IsWhole)
    (Y0 : S132x2048.Idx → F .f32) (Y1 Y2 : S24x3x8.Idx → F .f32) (Y3 : S132x16.Idx → F .f32) (Y4 : S72x16.Idx → F .f32)
    (E : Set ℕ) (Q : Unit → sProp 𝕄) :
    iprop((owns (c.tc : Thread nD τ) M0 fullShare Y0 ∗ owns (c.tc : Thread nD τ) M1 fullShare Y1 ∗ owns (c.tc : Thread nD τ) M2 fullShare Y2
        ∗ owns (c.tc : Thread nD τ) M3 fullShare Y3 ∗ owns (c.tc : Thread nD τ) M4 fullShare Y4)
      ∗ (owns (c.tc : Thread nD τ) M0 fullShare Y0 ∗ owns (c.tc : Thread nD τ) M1 fullShare Y1 ∗ owns (c.tc : Thread nD τ) M2 fullShare Y2
        ∗ owns (c.tc : Thread nD τ) M3 fullShare (k2_pay2 Y0) ∗ owns (c.tc : Thread nD τ) M4 fullShare (k2_pay1 Y1 Y2) -∗ Q ⟨⟩))
      ⊢ wp frame (wpE (defs₀ (F := F)) Variants.none (c.tc : Thread nD τ) none) E (cc2__finalize_body M0 h0 M1 h1 M2 h2 M3 h3 M4 h4) Q := by
  unfold owns
  iintro ⟨⟨⟨%f0, %e0, H0⟩, ⟨%f1, %e1, H1⟩, ⟨%f2, %e2, H2⟩, ⟨%f3, -, H3⟩, ⟨%f4, -, H4⟩⟩, Hk⟩
  obtain rfl := h0.eq_unread e0
  obtain rfl := h1.eq_unread e1
  obtain rfl := h2.eq_unread e2
  sl_exec!
  sl_step
  iapply Hk
  isplitl [H0]
  · iexists _; isplitr; swap; (· iexact H0); ipureintro; exact e0
  isplitl [H1]
  · iexists _; isplitr; swap; (· iexact H1); ipureintro; exact e1
  isplitl [H2]
  · iexists _; isplitr; swap; (· iexact H2); ipureintro; exact e2
  isplitl [H3]
  · iexists _; isplitr; swap; (· iexact H3); ipureintro
    unfold cc2_run.sl.H3_1
    refine (read_store0 _ (by decide) _ _ _).trans (congrArg k2_pay2 ?_)
    exact (readAt0 _ (by decide) _ _).trans e0
  · iexists _; isplitr; swap; (· iexact H4); ipureintro
    unfold cc2_run.sl.H4_1
    refine (read_store0 _ (by decide) _ _ _).trans (congrArg₂ k2_pay1 ?_ ?_)
    · exact (readAt0 _ (by decide) _ _).trans e1
    · exact (readAt0 _ (by decide) _ _).trans e2

end Cert.Proof.Tile

end
-- ==== Proof.Regions.lean ====
/-
  The two TensorCore calls of the host program: what each may leave in its staging buffers, and its body at a point.
-/
module

public import proofs.«01_k».proof.Proof.Cc1

@[expose] public section

noncomputable section

namespace Cert.Proof.Tile

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)
open Idealize.ShloMosaic.Pipeline (RDat pin arrRef arrRefs scopedRest)

variable {F : FTy → Type}

local notation "𝕄" => MT nD τ sig (HIx 1) (Elt F) ℕ UU ℕ

variable [FloatOps F]

/-- The block of eight channels that point `t` of the first call fetches, over what the staging buffer held before. -/
def fetched1 (x : S3x543x16384.Idx → F .f32) (t : Fin cfg1.N) (d : S3x8x16384.Idx → F .f32) : S3x8x16384.Idx → F .f32 :=
  (cfg1.win 0).fill (cfg1.grid.coords t) d (((cfg1.win 0).blk t).view.read (Elt F) x)

/-- What the first call's body leaves: its input as found, the sums and the sums of squares of a fetched block. -/
def after1 (A : (c : Dev nD) → Arrs (F := F) 0 c) (c : Dev nD) (w : Fin (pin (pcfgs (F := F)) adm 0).W) (t : Fin (pin (pcfgs (F := F)) adm 0).N) :
    (Y X : ((pin (pcfgs (F := F)) adm 0).win w).block.Idx → Elt F ((pin (pcfgs (F := F)) adm 0).win w).elt) → Prop :=
  match w with
  | ⟨0, _⟩ => fun Y X => X = Y
  | ⟨1, _⟩ => fun _ X => ∃ d, X = k1_pay2 (fetched1 (A c 0) t d)
  | ⟨2, _⟩ => fun _ X => ∃ d, X = k1_pay3 (fetched1 (A c 0) t d)

/-- What the second call's body leaves: its inputs as found, the finished statistics. -/
def after2 (A : (c : Dev nD) → Arrs (F := F) 1 c) (c : Dev nD) (w : Fin (pin (pcfgs (F := F)) adm 1).W) (t : Fin (pin (pcfgs (F := F)) adm 1).N) :
    (Y X : ((pin (pcfgs (F := F)) adm 1).win w).block.Idx → Elt F ((pin (pcfgs (F := F)) adm 1).win w).elt) → Prop :=
  match w with
  | ⟨0, _⟩ => fun Y X => X = Y
  | ⟨1, _⟩ => fun Y X => X = Y
  | ⟨2, _⟩ => fun Y X => X = Y
  | ⟨3, _⟩ => fun _ X => X = k2_pay2 (A c 0)
  | ⟨4, _⟩ => fun _ X => X = k2_pay1 (A c 1) (A c 2)

theorem body1 (A : (c : Dev nD) → Arrs (F := F) 0 c) (c : Dev nD) :
    (rdOf 0 A (after1 A) c).BodyObligation (defs₀ (F := F)) 𝒱₀ (none : HIx 1) Set.univ := by
  intro t Y hY
  rw [show (Finset.univ : Finset (Fin (pin (pcfgs (F := F)) adm 0).W)) = (Finset.univ : Finset (Fin cfg1.W)) from rfl]
  rw [bigSep_W1, bigSep_W1, show (rdOf 0 A (after1 A) c).Φ t.castSucc = (rdOf 0 A (after1 A) c).Φ t.succ from rfl]
  obtain ⟨d, hd⟩ := ((rdOf 0 A (after1 A) c).finds_of_fetch (w := (0 : Fin 3)) (fetch1_0 t) _).1 (hY (0 : Fin 3))
  iintro ⟨HΦ, HO, HW⟩
  iapply (cc1_run c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2))
    (Y (0 : Fin 3)) (Y (1 : Fin 3)) (Y (2 : Fin 3)) Set.univ _)
  isplitl [HW]; · iexact HW
  iintro ⟨H0, H1, H2⟩
  isplitl [HΦ]; · iexact HΦ
  isplitl [HO]; · iexact HO
  isplitl [H0]; · iexists _; isplitr; swap; (· iexact H0); ipureintro; exact rfl
  isplitl [H1]; · iexists _; isplitr; swap; (· iexact H1); ipureintro; exact ⟨d, congrArg k1_pay2 hd⟩
  iexists _; isplitr; swap; (· iexact H2); ipureintro; exact ⟨d, congrArg k1_pay3 hd⟩

theorem fetched2_0 (x : S132x2048.Idx → F .f32) (t : Fin cfg2.N) (d : S132x2048.Idx → F .f32) :
    (cfg2.win 0).fill (cfg2.grid.coords t) d (((cfg2.win 0).blk t).view.read (Elt F) x) = x := by
  funext j
  exact congrArg x (funext fun a => Fin.ext (by show 0 * _ + 1 * (j a).val = (j a).val; omega))

theorem fetched2_1 (x : S24x3x8.Idx → F .f32) (t : Fin cfg2.N) (d : S24x3x8.Idx → F .f32) :
    (cfg2.win 1).fill (cfg2.grid.coords t) d (((cfg2.win 1).blk t).view.read (Elt F) x) = x := by
  funext j
  exact congrArg x (funext fun a => Fin.ext (by show 0 * _ + 1 * (j a).val = (j a).val; omega))

theorem fetched2_2 (x : S24x3x8.Idx → F .f32) (t : Fin cfg2.N) (d : S24x3x8.Idx → F .f32) :
    (cfg2.win 2).fill (cfg2.grid.coords t) d (((cfg2.win 2).blk t).view.read (Elt F) x) = x := by
  funext j
  exact congrArg x (funext fun a => Fin.ext (by show 0 * _ + 1 * (j a).val = (j a).val; omega))

theorem body2 (A : (c : Dev nD) → Arrs (F := F) 1 c) (c : Dev nD) :
    (rdOf 1 A (after2 A) c).BodyObligation (defs₀ (F := F)) 𝒱₀ (none : HIx 1) Set.univ := by
  intro t Y hY
  rw [show (Finset.univ : Finset (Fin (pin (pcfgs (F := F)) adm 1).W)) = (Finset.univ : Finset (Fin cfg2.W)) from rfl]
  rw [bigSep_W2, bigSep_W2, show (rdOf 1 A (after2 A) c).Φ t.castSucc = (rdOf 1 A (after2 A) c).Φ t.succ from rfl]
  obtain ⟨d0, hd0⟩ := ((rdOf 1 A (after2 A) c).finds_of_fetch (w := (0 : Fin 5)) (fetch2_0 t) _).1 (hY (0 : Fin 5))
  obtain ⟨d1, hd1⟩ := ((rdOf 1 A (after2 A) c).finds_of_fetch (w := (1 : Fin 5)) (fetch2_1 t) _).1 (hY (1 : Fin 5))
  obtain ⟨d2, hd2⟩ := ((rdOf 1 A (after2 A) c).finds_of_fetch (w := (2 : Fin 5)) (fetch2_2 t) _).1 (hY (2 : Fin 5))
  replace hd0 : Y (0 : Fin 5) = A c (0 : Fin 5) := hd0.trans (fetched2_0 _ t d0)
  replace hd1 : Y (1 : Fin 5) = A c (1 : Fin 5) := hd1.trans (fetched2_1 _ t d1)
  replace hd2 : Y (2 : Fin 5) = A c (2 : Fin 5) := hd2.trans (fetched2_2 _ t d2)
  iintro ⟨HΦ, HO, HW⟩
  iapply (cc2_run c (win2_0.stage (cfg2.slots t 0)) (hstage2_0 0) (win2_1.stage (cfg2.slots t 1)) (hstage2_1 0) (win2_2.stage (cfg2.slots t 2)) (hstage2_2 0)
    (win2_3.stage (cfg2.slots t 3)) (hstage2_3 0) (win2_4.stage (cfg2.slots t 4)) (hstage2_4 0)
    (Y (0 : Fin 5)) (Y (1 : Fin 5)) (Y (2 : Fin 5)) (Y (3 : Fin 5)) (Y (4 : Fin 5)) Set.univ _)
  isplitl [HW]; · iexact HW
  iintro ⟨H0, H1, H2, H3, H4⟩
  isplitl [HΦ]; · iexact HΦ
  isplitl [HO]; · iexact HO
  isplitl [H0]; · iexists _; isplitr; swap; (· iexact H0); ipureintro; exact rfl
  isplitl [H1]; · iexists _; isplitr; swap; (· iexact H1); ipureintro; exact rfl
  isplitl [H2]; · iexists _; isplitr; swap; (· iexact H2); ipureintro; exact rfl
  isplitl [H3]; · iexists _; isplitr; swap; (· iexact H3); ipureintro; exact congrArg k2_pay2 hd0
  iexists _; isplitr; swap; (· iexact H4); ipureintro; exact congrArg₂ k2_pay1 hd1 hd2

end Cert.Proof.Tile

end
-- ==== Proof.RegionRun.lean ====
/-
  The two TensorCore calls as steps of the host program: from their arrays at given contents to their results.
-/
module

public import proofs.«01_k».proof.Proof.Regions
public import Idealize.ShloMosaic.Lib.Pipeline.ValueKit.Geometry

@[expose] public section

noncomputable section

namespace Cert.Proof.Tile

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)
open Idealize.ShloMosaic.Pipeline (RDat pin arrRef arrRefs scopedRest)

variable {F : FTy → Type}

local notation "𝕄" => MT nD τ sig (HIx 1) (Elt F) ℕ UU ℕ

variable [FloatOps F] [∀ e, Nonempty (Elt F e)]

/-- The arrays of the first call: the transposed input and its two results. -/
def A1 (x : S3x543x16384.Idx → F .f32) (a b : S24x3x8.Idx → F .f32) (c : Dev nD) : Arrs (F := F) 0 c := fun w =>
  match w with
  | ⟨0, _⟩ => x
  | ⟨1, _⟩ => a
  | ⟨2, _⟩ => b

/-- The arrays of the second call: the SparseCore's partial sums, the TensorCore's, and its two results. -/
def A2 (x : S132x2048.Idx → F .f32) (a b : S24x3x8.Idx → F .f32) (y : S132x16.Idx → F .f32) (z : S72x16.Idx → F .f32) (c : Dev nD) : Arrs (F := F) 1 c := fun w =>
  match w with
  | ⟨0, _⟩ => x
  | ⟨1, _⟩ => a
  | ⟨2, _⟩ => b
  | ⟨3, _⟩ => y
  | ⟨4, _⟩ => z

/-- The index in its block of an entry of the first call's results. -/
def blkIdx (i : S24x3x8.Idx) : S1x3x8.Idx := fun | 0 => ⟨0, by decide⟩ | 1 => i 1 | 2 => i 2

/-- What the first call's results may hold: entry `(t, k, j)` comes from a block that point `t` may have fetched. -/
def Part (x : S3x543x16384.Idx → F .f32) (a b : S24x3x8.Idx → F .f32) : Prop :=
  ∀ i : S24x3x8.Idx, (∃ d, a i = k1_pay2 (fetched1 x (i 0) d) (blkIdx i)) ∧ ∃ d, b i = k1_pay3 (fetched1 x (i 0) d) (blkIdx i)

theorem trans1 : ∀ t : Fin 24, cc1_transform_1 (grid1.coords t) 0 = t.val ∧ cc1_transform_2 (grid1.coords t) 0 = t.val := by decide +kernel

theorem out1_1 (A : (c : Dev nD) → Arrs (F := F) 0 c) (c : Dev nD) (G : S24x3x8.Idx → F .f32)
    (hG : (rdOf 0 A (after1 A) c).ArrAt (1 : Fin 3) 24 G) (i : S24x3x8.Idx) :
    ∃ d, G i = k1_pay2 (fetched1 (A c (0 : Fin 3)) (i 0) d) (blkIdx i) := by
  obtain ⟨X, hX, hA⟩ := hG.exists_exact
  rw [hA (Function.update (fun _ _ _ => Classical.arbitrary _) (1 : Fin 3) X) fun u _ _ => by rw [Function.update_self]]
  refine Pipeline.Dat.arrAt_forall_of_covers (Val := Elt F) (cfg := cfg1) (c := c) _ (1 : Fin 3) (fun (i : S24x3x8.Idx) v => ∃ d, v = k1_pay2 (fetched1 (A c (0 : Fin 3)) (i 0) d) (blkIdx i))
    (by decide +kernel) (fun t hf y => ?_) i
  obtain ⟨Y, -, d, hd⟩ := hX t t.isLt (flush1_1 t)
  refine ⟨d, ?_⟩
  have e1 : ((cfg1.win 1).blk t).view.emb y 0 = t := Fin.ext (by
    have hy : (y (0 : Fin 3)).val < 1 := (y (0 : Fin 3)).isLt
    show cc1_transform_1 (grid1.coords t) 0 * 1 + 1 * (y (0 : Fin 3)).val = t.val
    rw [(trans1 t).1]; omega)
  have e2 : blkIdx (((cfg1.win 1).blk t).view.emb y) = y := funext fun a => Fin.ext (by
    match a with
    | ⟨0, _⟩ =>
      have hy : (y (0 : Fin 3)).val < 1 := (y (0 : Fin 3)).isLt
      show 0 = (y (0 : Fin 3)).val; omega
    | ⟨1, _⟩ => show 0 * _ + 1 * (y (1 : Fin 3)).val = (y (1 : Fin 3)).val; omega
    | ⟨2, _⟩ => show 0 * _ + 1 * (y (2 : Fin 3)).val = (y (2 : Fin 3)).val; omega)
  have e3 : Function.update (β := fun w => Fin (pin (pcfgs (F := F)) adm 0).N → ((pin (pcfgs (F := F)) adm 0).win w).block.Idx → Elt F ((pin (pcfgs (F := F)) adm 0).win w).elt)
      (fun _ _ _ => Classical.arbitrary _) (1 : Fin 3) X (1 : Fin 3) t y = k1_pay2 (fetched1 (A c (0 : Fin 3)) t d) y := by
    rw [Function.update_self, hd]
  rw [e1, e2]
  exact e3

theorem out1_2 (A : (c : Dev nD) → Arrs (F := F) 0 c) (c : Dev nD) (G : S24x3x8.Idx → F .f32)
    (hG : (rdOf 0 A (after1 A) c).ArrAt (2 : Fin 3) 24 G) (i : S24x3x8.Idx) :
    ∃ d, G i = k1_pay3 (fetched1 (A c (0 : Fin 3)) (i 0) d) (blkIdx i) := by
  obtain ⟨X, hX, hA⟩ := hG.exists_exact
  rw [hA (Function.update (fun _ _ _ => Classical.arbitrary _) (2 : Fin 3) X) fun u _ _ => by rw [Function.update_self]]
  refine Pipeline.Dat.arrAt_forall_of_covers (Val := Elt F) (cfg := cfg1) (c := c) _ (2 : Fin 3) (fun (i : S24x3x8.Idx) v => ∃ d, v = k1_pay3 (fetched1 (A c (0 : Fin 3)) (i 0) d) (blkIdx i))
    (by decide +kernel) (fun t hf y => ?_) i
  obtain ⟨Y, -, d, hd⟩ := hX t t.isLt (flush1_2 t)
  refine ⟨d, ?_⟩
  have e1 : ((cfg1.win 2).blk t).view.emb y 0 = t := Fin.ext (by
    have hy : (y (0 : Fin 3)).val < 1 := (y (0 : Fin 3)).isLt
    show cc1_transform_2 (grid1.coords t) 0 * 1 + 1 * (y (0 : Fin 3)).val = t.val
    rw [(trans1 t).2]; omega)
  have e2 : blkIdx (((cfg1.win 2).blk t).view.emb y) = y := funext fun a => Fin.ext (by
    match a with
    | ⟨0, _⟩ =>
      have hy : (y (0 : Fin 3)).val < 1 := (y (0 : Fin 3)).isLt
      show 0 = (y (0 : Fin 3)).val; omega
    | ⟨1, _⟩ => show 0 * _ + 1 * (y (1 : Fin 3)).val = (y (1 : Fin 3)).val; omega
    | ⟨2, _⟩ => show 0 * _ + 1 * (y (2 : Fin 3)).val = (y (2 : Fin 3)).val; omega)
  have e3 : Function.update (β := fun w => Fin (pin (pcfgs (F := F)) adm 0).N → ((pin (pcfgs (F := F)) adm 0).win w).block.Idx → Elt F ((pin (pcfgs (F := F)) adm 0).win w).elt)
      (fun _ _ _ => Classical.arbitrary _) (2 : Fin 3) X (2 : Fin 3) t y = k1_pay3 (fetched1 (A c (0 : Fin 3)) t d) y := by
    rw [Function.update_self, hd]
  rw [e1, e2]
  exact e3

theorem whole2_3 : (win2 3).WholeAt t2_0 := by decide +kernel
theorem whole2_4 : (win2 4).WholeAt t2_0 := by decide +kernel

theorem out2_3 (A : (c : Dev nD) → Arrs (F := F) 1 c) (c : Dev nD) (G : S132x16.Idx → F .f32)
    (hG : (rdOf 1 A (after2 A) c).ArrAt (3 : Fin 5) 1 G) : G = k2_pay2 (A c (0 : Fin 5)) := by
  obtain ⟨X, ⟨Y, -, hX⟩, h⟩ := hG.emb_eq_of_wholeAt (t₀ := (t2_0 : Fin cfg2.N)) whole2_3
  funext i
  exact (h i).trans (congrFun (hX : X = k2_pay2 (A c (0 : Fin 5))) _)

theorem out2_4 (A : (c : Dev nD) → Arrs (F := F) 1 c) (c : Dev nD) (G : S72x16.Idx → F .f32)
    (hG : (rdOf 1 A (after2 A) c).ArrAt (4 : Fin 5) 1 G) : G = k2_pay1 (A c (1 : Fin 5)) (A c (2 : Fin 5)) := by
  obtain ⟨X, ⟨Y, -, hX⟩, h⟩ := hG.emb_eq_of_wholeAt (t₀ := (t2_0 : Fin cfg2.N)) whole2_4
  funext i
  exact (h i).trans (congrFun (hX : X = k2_pay1 (A c (1 : Fin 5)) (A c (2 : Fin 5))) _)

/-- The arrays of the first call, one by one, -/
theorem arrPts1 (d : Dev nD) (G : Arrs (F := F) 0 d) : (arrPts 0 d G : sProp 𝕄) =
    iprop(((d.tc : Thread nD τ).loc main_v0 ↦{fullShare} G (0 : Fin 3)) ∗ ((d.tc : Thread nD τ).loc main_v3_0 ↦{fullShare} G (1 : Fin 3))
      ∗ ((d.tc : Thread nD τ).loc main_v3_1 ↦{fullShare} G (2 : Fin 3))) := by
  unfold arrPts
  exact bigSep_W1 _

/-- and of the second. -/
theorem arrPts2 (d : Dev nD) (G : Arrs (F := F) 1 d) : (arrPts 1 d G : sProp 𝕄) =
    iprop(((d.tc : Thread nD τ).loc main_v2 ↦{fullShare} G (0 : Fin 5)) ∗ ((d.tc : Thread nD τ).loc main_v3_0 ↦{fullShare} G (1 : Fin 5))
      ∗ ((d.tc : Thread nD τ).loc main_v3_1 ↦{fullShare} G (2 : Fin 5)) ∗ ((d.tc : Thread nD τ).loc main_v4_0 ↦{fullShare} G (3 : Fin 5))
      ∗ ((d.tc : Thread nD τ).loc main_v4_1 ↦{fullShare} G (4 : Fin 5))) := by
  unfold arrPts
  exact bigSep_W2 _

/-- The first TensorCore call: the transposed input stays, its results are partial sums of its blocks. -/
theorem wp_region1 (d : Dev nD) (x : Buf (Elt F) ((d.tc : Thread nD τ).loc main_v0)) (a : Buf (Elt F) ((d.tc : Thread nD τ).loc main_v3_0))
    (b : Buf (Elt F) ((d.tc : Thread nD τ).loc main_v3_1)) (Q : Unit → sProp 𝕄) :
    iprop(((∃ (a' : Buf (Elt F) ((d.tc : Thread nD τ).loc main_v3_0)) (b' : Buf (Elt F) ((d.tc : Thread nD τ).loc main_v3_1)), ⌜Part x a' b'⌝
          ∗ boundary (SparseCore.T d) ∗ (((d.tc : Thread nD τ).loc main_v0 ↦{fullShare} x) ∗ ((d.tc : Thread nD τ).loc main_v3_0 ↦{fullShare} a')
            ∗ ((d.tc : Thread nD τ).loc main_v3_1 ↦{fullShare} b')) ∗ owesB d) -∗ Q ⟨⟩)
        ∗ boundary (SparseCore.T d) ∗ (((d.tc : Thread nD τ).loc main_v0 ↦{fullShare} x) ∗ ((d.tc : Thread nD τ).loc main_v3_0 ↦{fullShare} a)
            ∗ ((d.tc : Thread nD τ).loc main_v3_1 ↦{fullShare} b)) ∗ owesB d ∗ levAts (K (F := F)).L (K (F := F)).lev
        ∗ Pipeline.cellsGhost (pin (pcfgs (F := F)) adm) EP 0 d ∗ Pipeline.toksInit (pin (pcfgs (F := F)) adm) EP 0 d)
      ⊢ wp frame (wpE ((K (F := F)).defs (D (F := F))) 𝒱 (SparseCore.T d) none) Set.univ
          (Prog.lift (.customCall (SparseCore.inner (Pipeline.entry 0)) ())) Q := by
  refine BIBase.Entails.trans ?_ (wp_region (F := F) 0 (A1 x a b) (after1 (A1 x a b)) launch1.toP (body1 _) d Q)
  simp only [arrPts1]
  iintro ⟨HQ, Hb, Ha, HO, HL, Hg, Ht⟩
  isplitl [HQ]
  · iintro ⟨%G, %hG, Hb, Ha, HO⟩
    icases Ha with ⟨H0, H1, H2⟩
    have h0 : G (0 : Fin 3) = x :=
      (congrFun (RDat.ArrAt_in (rdOf 0 (A1 x a b) (after1 (A1 x a b)) d) (0 : Fin 3) rfl _) _).mp (hG (0 : Fin 3))
    subst h0
    iapply HQ
    iexists (G (1 : Fin 3)), (G (2 : Fin 3))
    isplitr; · ipureintro; exact fun i => ⟨out1_1 _ d _ (hG (1 : Fin 3)) i, out1_2 _ d _ (hG (2 : Fin 3)) i⟩
    isplitl [Hb]; · iexact Hb
    isplitl [H0 H1 H2]
    · isplitl [H0]; · iexact H0
      isplitl [H1]; · iexact H1
      iexact H2
    iexact HO
  isplitl [Hb]; · iexact Hb
  isplitl [Ha]; · iexact Ha
  isplitl [HO]; · iexact HO
  isplitl [HL]; · iexact HL
  isplitl [Hg]; · iexact Hg
  iexact Ht

/-- The second TensorCore call: it reads every partial sum and leaves the finished statistics. -/
theorem wp_region2 (d : Dev nD) (x : Buf (Elt F) ((d.tc : Thread nD τ).loc main_v2)) (a : Buf (Elt F) ((d.tc : Thread nD τ).loc main_v3_0))
    (b : Buf (Elt F) ((d.tc : Thread nD τ).loc main_v3_1)) (y : Buf (Elt F) ((d.tc : Thread nD τ).loc main_v4_0))
    (z : Buf (Elt F) ((d.tc : Thread nD τ).loc main_v4_1)) (Q : Unit → sProp 𝕄) :
    iprop(((boundary (SparseCore.T d) ∗ (((d.tc : Thread nD τ).loc main_v2 ↦{fullShare} x) ∗ ((d.tc : Thread nD τ).loc main_v3_0 ↦{fullShare} a)
            ∗ ((d.tc : Thread nD τ).loc main_v3_1 ↦{fullShare} b)
            ∗ ((d.tc : Thread nD τ).loc main_v4_0 ↦{fullShare} (k2_pay2 (x : S132x2048.Idx → F .f32) : S132x16.Idx → F .f32))
            ∗ ((d.tc : Thread nD τ).loc main_v4_1 ↦{fullShare} (k2_pay1 (a : S24x3x8.Idx → F .f32) (b : S24x3x8.Idx → F .f32) : S72x16.Idx → F .f32))) ∗ owesB d) -∗ Q ⟨⟩)
        ∗ boundary (SparseCore.T d) ∗ (((d.tc : Thread nD τ).loc main_v2 ↦{fullShare} x) ∗ ((d.tc : Thread nD τ).loc main_v3_0 ↦{fullShare} a)
            ∗ ((d.tc : Thread nD τ).loc main_v3_1 ↦{fullShare} b) ∗ ((d.tc : Thread nD τ).loc main_v4_0 ↦{fullShare} y)
            ∗ ((d.tc : Thread nD τ).loc main_v4_1 ↦{fullShare} z)) ∗ owesB d ∗ levAts (K (F := F)).L (K (F := F)).lev
        ∗ Pipeline.cellsGhost (pin (pcfgs (F := F)) adm) EP 1 d ∗ Pipeline.toksInit (pin (pcfgs (F := F)) adm) EP 1 d)
      ⊢ wp frame (wpE ((K (F := F)).defs (D (F := F))) 𝒱 (SparseCore.T d) none) Set.univ
          (Prog.lift (.customCall (SparseCore.inner (Pipeline.entry 1)) ())) Q := by
  refine BIBase.Entails.trans ?_ (wp_region (F := F) 1 (A2 x a b y z) (after2 (A2 x a b y z)) launch2.toP (body2 _) d Q)
  simp only [arrPts2]
  iintro ⟨HQ, Hb, Ha, HO, HL, Hg, Ht⟩
  isplitl [HQ]
  · iintro ⟨%G, %hG, Hb, Ha, HO⟩
    icases Ha with ⟨H0, H1, H2, H3, H4⟩
    have h0 : G (0 : Fin 5) = x :=
      (congrFun (RDat.ArrAt_in (rdOf 1 (A2 x a b y z) (after2 (A2 x a b y z)) d) (0 : Fin 5) rfl _) _).mp (hG (0 : Fin 5))
    have h1 : G (1 : Fin 5) = a :=
      (congrFun (RDat.ArrAt_in (rdOf 1 (A2 x a b y z) (after2 (A2 x a b y z)) d) (1 : Fin 5) rfl _) _).mp (hG (1 : Fin 5))
    have h2 : G (2 : Fin 5) = b :=
      (congrFun (RDat.ArrAt_in (rdOf 1 (A2 x a b y z) (after2 (A2 x a b y z)) d) (2 : Fin 5) rfl _) _).mp (hG (2 : Fin 5))
    have h3 : G (3 : Fin 5) = _ := out2_3 _ d _ (hG (3 : Fin 5))
    have h4 : G (4 : Fin 5) = _ := out2_4 _ d _ (hG (4 : Fin 5))
    clear hG
    generalize G (0 : Fin 5) = g0, G (1 : Fin 5) = g1, G (2 : Fin 5) = g2, G (3 : Fin 5) = g3, G (4 : Fin 5) = g4 at *
    subst h0; subst h1; subst h2; subst h3; subst h4
    iapply HQ
    isplitl [Hb]; · iexact Hb
    isplitl [H0 H1 H2 H3 H4]
    · isplitl [H0]; · iexact H0
      isplitl [H1]; · iexact H1
      isplitl [H2]; · iexact H2
      isplitl [H3]; · iexact H3
      iexact H4
    iexact HO
  isplitl [Hb]; · iexact Hb
  isplitl [Ha]; · iexact Ha
  isplitl [HO]; · iexact HO
  isplitl [HL]; · iexact HL
  isplitl [Hg]; · iexact Hg
  iexact Ht

end Cert.Proof.Tile

end
-- ==== Proof.Host.lean ====
/-
  The host program on the TensorCore: the transposition, the SparseCore call, the two TensorCore calls and the host
  operations that put the statistics in the order of the columns, run from the launch to the end; the run of the whole
  program and what it leaves.
-/
module

public import proofs.«01_k».proof.Proof.RegionRun
public import Idealize.ShloMosaic.Lib.StableHlo.RunHlo

@[expose] public section

noncomputable section

namespace Cert.Proof.Tile

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)
open Idealize.ShloMosaic.StableHlo (held wp_hlo_within)
open Idealize.ShloMosaic.Pipeline (pin ucRefs)

variable {F : FTy → Type}

local notation "𝕄" => MT nD τ sig (HIx 1) (Elt F) ℕ UU ℕ

variable [FloatOps F]

/-! ## The host operations -/

/-- The transposition of the input. -/
abbrev opT : HloOp τ sig (Elt F) := StableHlo.unary main_arg0 main_v0 ((transpose S3x543x16384 [2, 1, 0] · transposes_S16384x543x3_S3x543x16384_2_1_0) : (⟨S16384x543x3, .f32⟩ : BufTy).Contents (Elt F) → (⟨S3x543x16384, .f32⟩ : BufTy).Contents (Elt F))
/-- The SparseCore's partial sums as a matrix, one piece per half row. -/
abbrev opR : HloOp τ sig (Elt F) := StableHlo.reshape main_v1 main_v2 (rfl : (.f32 : EltTy) = .f32) shapeCasts_S270336_S132x2048
/-- What the host does with the finished statistics. -/
abbrev opsE : List (HloOp τ sig (Elt F)) := [
    StableHlo.unary main_v4_0 main_v5 ((extractStridedSlice S132x8 ![0, 0] · slices_S132x16_S132x8_0_0) : (⟨S132x16, .f32⟩ : BufTy).Contents (Elt F) → (⟨S132x8, .f32⟩ : BufTy).Contents (Elt F)),
    StableHlo.reshape main_v5 main_v6 (rfl : (.f32 : EltTy) = .f32) shapeCasts_S132x8_S3x352,
    StableHlo.unary main_v4_0 main_v7 ((extractStridedSlice S132x8 ![0, 8] · slices_S132x16_S132x8_0_8) : (⟨S132x16, .f32⟩ : BufTy).Contents (Elt F) → (⟨S132x8, .f32⟩ : BufTy).Contents (Elt F)),
    StableHlo.reshape main_v7 main_v8 (rfl : (.f32 : EltTy) = .f32) shapeCasts_S132x8_S3x352,
    StableHlo.unary main_v4_1 main_v9 ((extractStridedSlice S72x8 ![0, 0] · slices_S72x16_S72x8_0_0) : (⟨S72x16, .f32⟩ : BufTy).Contents (Elt F) → (⟨S72x8, .f32⟩ : BufTy).Contents (Elt F)),
    StableHlo.reshape main_v9 main_v10 (rfl : (.f32 : EltTy) = .f32) shapeCasts_S72x8_S24x3x8,
    StableHlo.unary main_v10 main_v11 ((transpose S3x24x8 [1, 0, 2] · transposes_S24x3x8_S3x24x8_1_0_2) : (⟨S24x3x8, .f32⟩ : BufTy).Contents (Elt F) → (⟨S3x24x8, .f32⟩ : BufTy).Contents (Elt F)),
    StableHlo.reshape main_v11 main_v12 (rfl : (.f32 : EltTy) = .f32) shapeCasts_S3x24x8_S3x192,
    StableHlo.unary main_v4_1 main_v13 ((extractStridedSlice S72x8 ![0, 8] · slices_S72x16_S72x8_0_8) : (⟨S72x16, .f32⟩ : BufTy).Contents (Elt F) → (⟨S72x8, .f32⟩ : BufTy).Contents (Elt F)),
    StableHlo.reshape main_v13 main_v14 (rfl : (.f32 : EltTy) = .f32) shapeCasts_S72x8_S24x3x8,
    StableHlo.unary main_v14 main_v15 ((transpose S3x24x8 [1, 0, 2] · transposes_S24x3x8_S3x24x8_1_0_2) : (⟨S24x3x8, .f32⟩ : BufTy).Contents (Elt F) → (⟨S3x24x8, .f32⟩ : BufTy).Contents (Elt F)),
    StableHlo.reshape main_v15 main_v16 (rfl : (.f32 : EltTy) = .f32) shapeCasts_S3x24x8_S3x192,
    StableHlo.binary main_v6 main_v12 main_v17 ((fun a b => concatenate S3x544 1 [⟨S3x352, a⟩, ⟨S3x192, b⟩] concatenates_S3x352_S3x192_S3x544_d1) : (⟨S3x352, .f32⟩ : BufTy).Contents (Elt F) → (⟨S3x192, .f32⟩ : BufTy).Contents (Elt F) → (⟨S3x544, .f32⟩ : BufTy).Contents (Elt F)),
    StableHlo.unary main_v17 main_v18 ((extractStridedSlice S3x543 ![0, 0] · slices_S3x544_S3x543_0_0) : (⟨S3x544, .f32⟩ : BufTy).Contents (Elt F) → (⟨S3x543, .f32⟩ : BufTy).Contents (Elt F)),
    StableHlo.binary main_v8 main_v16 main_v19 ((fun a b => concatenate S3x544 1 [⟨S3x352, a⟩, ⟨S3x192, b⟩] concatenates_S3x352_S3x192_S3x544_d1) : (⟨S3x352, .f32⟩ : BufTy).Contents (Elt F) → (⟨S3x192, .f32⟩ : BufTy).Contents (Elt F) → (⟨S3x544, .f32⟩ : BufTy).Contents (Elt F)),
    StableHlo.unary main_v19 main_v20 ((extractStridedSlice S3x543 ![0, 0] · slices_S3x544_S3x543_0_0) : (⟨S3x544, .f32⟩ : BufTy).Contents (Elt F) → (⟨S3x543, .f32⟩ : BufTy).Contents (Elt F)),
    StableHlo.unary main_v18 main_v21 ((transpose S543x3 [1, 0] · transposes_S3x543_S543x3_1_0) : (⟨S3x543, .f32⟩ : BufTy).Contents (Elt F) → (⟨S543x3, .f32⟩ : BufTy).Contents (Elt F)),
    StableHlo.reshape main_v21 main_v22 (rfl : (.f32 : EltTy) = .f32) shapeCasts_S543x3_S1629,
    StableHlo.unary main_v20 main_v23 ((transpose S543x3 [1, 0] · transposes_S3x543_S543x3_1_0) : (⟨S3x543, .f32⟩ : BufTy).Contents (Elt F) → (⟨S543x3, .f32⟩ : BufTy).Contents (Elt F)),
    StableHlo.reshape main_v23 main_v24 (rfl : (.f32 : EltTy) = .f32) shapeCasts_S543x3_S1629,
    StableHlo.binary main_v22 main_v24 main_v25 ((fun a b => concatenate S3258 0 [⟨S1629, a⟩, ⟨S1629, b⟩] concatenates_S1629_S1629_S3258_d0) : (⟨S1629, .f32⟩ : BufTy).Contents (Elt F) → (⟨S1629, .f32⟩ : BufTy).Contents (Elt F) → (⟨S3258, .f32⟩ : BufTy).Contents (Elt F)),
    StableHlo.unary main_v25 main_v26 (broadcastInDim S1x3258 ![1] bcast_S3258_S1x3258_1 : (⟨S3258, .f32⟩ : BufTy).Contents (Elt F) → (⟨S1x3258, .f32⟩ : BufTy).Contents (Elt F))]

theorem main_eq (d : Dev nD) : main (F := F) d = (do
    hlo rfl opT fun _ => .ret ⟨⟩
    sc.run d 0
    hlo rfl opR fun _ => .ret ⟨⟩
    Prog.lift (.customCall (SparseCore.inner (Pipeline.entry 0)) ())
    Prog.lift (.customCall (SparseCore.inner (Pipeline.entry 1)) ())
    StableHlo.seq opsE) := rfl

theorem opsE_sub : (opsE (F := F)).Forall fun op => op.bufs ⊆ StableHlo.tcRefs τ sig := by
  simp [opsE]

theorem opsE_uc : ∀ op ∈ opsE (F := F), op.bufs ⊆ ucRefs τ sig := fun op h =>
  Pipeline.sub_ucRefs op (List.forall_iff_forall_mem.mp opsE_sub op h)

theorem opsE_fresh : ∀ op ∈ opsE (F := F), op.fresh = ∅ := by
  rw [← List.forall_iff_forall_mem]; repeat' constructor

/-- The result of the statistics of the SparseCore's columns `p` and of the TensorCore's `q`. -/
def tailVal (p : S132x16.Idx → F .f32) (q : S72x16.Idx → F .f32) : S1x3258.Idx → F .f32 :=
  let mean := concatenate S3x544 1 [⟨S3x352, shapeCast S3x352 (extractStridedSlice S132x8 ![0, 0] p slices_S132x16_S132x8_0_0) shapeCasts_S132x8_S3x352⟩,
    ⟨S3x192, shapeCast S3x192 (transpose S3x24x8 [1, 0, 2] (shapeCast S24x3x8 (extractStridedSlice S72x8 ![0, 0] q slices_S72x16_S72x8_0_0) shapeCasts_S72x8_S24x3x8)
      transposes_S24x3x8_S3x24x8_1_0_2) shapeCasts_S3x24x8_S3x192⟩] concatenates_S3x352_S3x192_S3x544_d1
  let dev := concatenate S3x544 1 [⟨S3x352, shapeCast S3x352 (extractStridedSlice S132x8 ![0, 8] p slices_S132x16_S132x8_0_8) shapeCasts_S132x8_S3x352⟩,
    ⟨S3x192, shapeCast S3x192 (transpose S3x24x8 [1, 0, 2] (shapeCast S24x3x8 (extractStridedSlice S72x8 ![0, 8] q slices_S72x16_S72x8_0_8) shapeCasts_S72x8_S24x3x8)
      transposes_S24x3x8_S3x24x8_1_0_2) shapeCasts_S3x24x8_S3x192⟩] concatenates_S3x352_S3x192_S3x544_d1
  let row (v : S3x544.Idx → F .f32) : S1629.Idx → F .f32 :=
    shapeCast S1629 (transpose S543x3 [1, 0] (extractStridedSlice S3x543 ![0, 0] v slices_S3x544_S3x543_0_0) transposes_S3x543_S543x3_1_0) shapeCasts_S543x3_S1629
  broadcastInDim S1x3258 ![1] bcast_S3258_S1x3258_1 (concatenate S3258 0 [⟨S1629, row mean⟩, ⟨S1629, row dev⟩] concatenates_S1629_S1629_S3258_d0)

theorem tail_result (V : Valuation τ sig (Elt F)) :
    StableHlo.after opsE V (Proc.devRef (τ := τ) Proc.tc main_v26) = tailVal (F := F) (V (Proc.devRef (τ := τ) Proc.tc main_v4_0)) (V (Proc.devRef (τ := τ) Proc.tc main_v4_1)) := by
  unfold opsE
  after_results
  rfl

theorem tail_arg (V : Valuation τ sig (Elt F)) : StableHlo.after opsE V (Proc.devRef (τ := τ) Proc.tc main_arg0) = V (Proc.devRef (τ := τ) Proc.tc main_arg0) := by
  unfold opsE
  after_results

end Cert.Proof.Tile

end
-- ==== Proof.Main.lean ====
/-
  The host program on the TensorCore from the launch to the end, and the run of the whole program.
-/
module

public import proofs.«01_k».proof.Defs
public import proofs.«01_k».proof.Proof.Gen.Kernel
public import proofs.«01_k».proof.Proof.Host

@[expose] public section

noncomputable section

namespace Cert.Proof.Tile

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)
open Idealize.ShloMosaic.StableHlo (held wp_hlo_within)
open Idealize.ShloMosaic.Pipeline (pin ucRefs)

variable {F : FTy → Type}

local notation "𝕄" => MT nD τ sig (HIx 1) (Elt F) ℕ UU ℕ

variable [FloatOps F]

/-! ## Buffers taken out of the host's and put back -/

/-- Some of the host's buffers, at a valuation that agrees with the rest's, joined with the rest. -/
theorem held_put (d : Dev nD) {S U : Finset (DevRef τ sig)} (hS : S ⊆ U) (V V' : Valuation τ sig (Elt F)) (h : ∀ b ∈ U \ S, V b = V' b) :
    iprop(held (d.tc : Thread nD τ) S V' ∗ held (d.tc : Thread nD τ) (U \ S) V) ⊢ (held (d.tc : Thread nD τ) U V' : sProp 𝕄) := by
  rw [StableHlo.held_sub_split (d.tc : Thread nD τ) hS V', StableHlo.held_congr (d.tc : Thread nD τ) h]

def S01 : Finset (DevRef τ sig) := {(Proc.devRef (τ := τ) Proc.tc main_v0), (Proc.devRef (τ := τ) Proc.tc main_v1)}
def SR1 : Finset (DevRef τ sig) := {(Proc.devRef (τ := τ) Proc.tc main_v0), (Proc.devRef (τ := τ) Proc.tc main_v3_0), (Proc.devRef (τ := τ) Proc.tc main_v3_1)}
def SR2 : Finset (DevRef τ sig) := {(Proc.devRef (τ := τ) Proc.tc main_v2), (Proc.devRef (τ := τ) Proc.tc main_v3_0), (Proc.devRef (τ := τ) Proc.tc main_v3_1), (Proc.devRef (τ := τ) Proc.tc main_v4_0), (Proc.devRef (τ := τ) Proc.tc main_v4_1)}
def SF : Finset (DevRef τ sig) := {(Proc.devRef (τ := τ) Proc.tc main_arg0), (Proc.devRef (τ := τ) Proc.tc main_v26)}

theorem S01_sub : S01 ⊆ ucRefs τ sig := by decide +kernel
theorem SR1_sub : SR1 ⊆ ucRefs τ sig := by decide +kernel
theorem SR2_sub : SR2 ⊆ ucRefs τ sig := by decide +kernel
theorem SF_sub : SF ⊆ ucRefs τ sig := by decide +kernel

theorem held_S01 (d : Dev nD) (V : Valuation τ sig (Elt F)) : (held (d.tc : Thread nD τ) S01 V : sProp 𝕄) =
    iprop(((d.tc : Thread nD τ).loc main_v0 ↦{fullShare} V (Proc.devRef (τ := τ) Proc.tc main_v0)) ∗ (d.tc : Thread nD τ).loc main_v1 ↦{fullShare} V (Proc.devRef (τ := τ) Proc.tc main_v1)) := by
  unfold held S01
  rw [SparseCore.bigSep_insert' (by decide), bigSep_singleton]

theorem held_SR1 (d : Dev nD) (V : Valuation τ sig (Elt F)) : (held (d.tc : Thread nD τ) SR1 V : sProp 𝕄) =
    iprop(((d.tc : Thread nD τ).loc main_v0 ↦{fullShare} V (Proc.devRef (τ := τ) Proc.tc main_v0)) ∗ ((d.tc : Thread nD τ).loc main_v3_0 ↦{fullShare} V (Proc.devRef (τ := τ) Proc.tc main_v3_0))
      ∗ (d.tc : Thread nD τ).loc main_v3_1 ↦{fullShare} V (Proc.devRef (τ := τ) Proc.tc main_v3_1)) := by
  unfold held SR1
  rw [SparseCore.bigSep_insert' (by decide), SparseCore.bigSep_insert' (by decide), bigSep_singleton]

theorem held_SR2 (d : Dev nD) (V : Valuation τ sig (Elt F)) : (held (d.tc : Thread nD τ) SR2 V : sProp 𝕄) =
    iprop(((d.tc : Thread nD τ).loc main_v2 ↦{fullShare} V (Proc.devRef (τ := τ) Proc.tc main_v2)) ∗ ((d.tc : Thread nD τ).loc main_v3_0 ↦{fullShare} V (Proc.devRef (τ := τ) Proc.tc main_v3_0))
      ∗ ((d.tc : Thread nD τ).loc main_v3_1 ↦{fullShare} V (Proc.devRef (τ := τ) Proc.tc main_v3_1)) ∗ ((d.tc : Thread nD τ).loc main_v4_0 ↦{fullShare} V (Proc.devRef (τ := τ) Proc.tc main_v4_0))
      ∗ (d.tc : Thread nD τ).loc main_v4_1 ↦{fullShare} V (Proc.devRef (τ := τ) Proc.tc main_v4_1)) := by
  unfold held SR2
  rw [SparseCore.bigSep_insert' (by decide), SparseCore.bigSep_insert' (by decide), SparseCore.bigSep_insert' (by decide),
    SparseCore.bigSep_insert' (by decide), bigSep_singleton]

theorem held_SF (d : Dev nD) (V : Valuation τ sig (Elt F)) : (held (d.tc : Thread nD τ) SF V : sProp 𝕄) =
    iprop(((d.tc : Thread nD τ).loc main_arg0 ↦{fullShare} V (Proc.devRef (τ := τ) Proc.tc main_arg0)) ∗ (d.tc : Thread nD τ).loc main_v26 ↦{fullShare} V (Proc.devRef (τ := τ) Proc.tc main_v26)) := by
  unfold held SF
  rw [SparseCore.bigSep_insert' (by decide), bigSep_singleton]

/-! ## The contents of the host's buffers after each step -/

variable (m : (ℓ : Loc nD τ sig) → Buf (Elt F) ℓ) (ρ : Dev nD → PrngReg)

/-- The input transposed: coordinate, channel, row. -/
def Xt (d : Dev nD) : S3x543x16384.Idx → F .f32 :=
  transpose S3x543x16384 [2, 1, 0] (m ((d.tc : Thread nD τ).loc main_arg0) : S16384x543x3.Idx → F .f32) transposes_S16384x543x3_S3x543x16384_2_1_0

/-- What the second TensorCore call reads of the SparseCore's sums. -/
def scMat (d : Dev nD) : S132x2048.Idx → F .f32 := shapeCast S132x2048 (scOut (F := F) (Xt m d)) shapeCasts_S270336_S132x2048

abbrev XB (d : Dev nD) : Buf (Elt F) (xLoc d) := Xt m d
abbrev YB (d : Dev nD) : Buf (Elt F) (oLoc d) := m (oLoc d)

def W0 (d : Dev nD) : Valuation τ sig (Elt F) := fun b => m (d, b)
def W1 (d : Dev nD) : Valuation τ sig (Elt F) := (opT (F := F)).result (W0 m d)
def W2 (d : Dev nD) : Valuation τ sig (Elt F) := Function.update (W1 m d) (Proc.devRef (τ := τ) Proc.tc main_v1) (scOutB (XB m) d)
def W3 (d : Dev nD) : Valuation τ sig (Elt F) := (opR (F := F)).result (W2 m d)
def W4 (d : Dev nD) (a b : S24x3x8.Idx → F .f32) : Valuation τ sig (Elt F) :=
  Function.update (Function.update (W3 m d) (Proc.devRef (τ := τ) Proc.tc main_v3_0) a) (Proc.devRef (τ := τ) Proc.tc main_v3_1) b
def W5 (d : Dev nD) (a b : S24x3x8.Idx → F .f32) : Valuation τ sig (Elt F) :=
  Function.update (Function.update (W4 m d a b) (Proc.devRef (τ := τ) Proc.tc main_v4_0) (k2_pay2 (scMat m d) : S132x16.Idx → F .f32)) (Proc.devRef (τ := τ) Proc.tc main_v4_1) (k2_pay1 a b : S72x16.Idx → F .f32)

theorem W1_v0 (d : Dev nD) : W1 m d (Proc.devRef (τ := τ) Proc.tc main_v0) = XB m d := by
  unfold W1; rw [StableHlo.unary_result]; rfl
theorem W1_ne (d : Dev nD) (r : Ref sig .tc) (h : r ≠ main_v0) : W1 m d (Proc.devRef (τ := τ) Proc.tc r) = W0 m d (Proc.devRef (τ := τ) Proc.tc r) := by
  unfold W1; rw [StableHlo.unary_result_ne]; exact h
theorem W2_v1 (d : Dev nD) : W2 m d (Proc.devRef (τ := τ) Proc.tc main_v1) = scOutB (XB m) d := by unfold W2; rw [Function.update_self]
theorem W2_ne (d : Dev nD) (b : DevRef τ sig) (h : b ≠ (Proc.devRef (τ := τ) Proc.tc main_v1)) : W2 m d b = W1 m d b := by unfold W2; rw [Function.update_of_ne h]
theorem W3_v2 (d : Dev nD) : W3 m d (Proc.devRef (τ := τ) Proc.tc main_v2) = (scMat m d : S132x2048.Idx → F .f32) := by
  unfold W3; rw [StableHlo.reshape_result, W2_v1]; rfl
theorem W3_ne (d : Dev nD) (r : Ref sig .tc) (h : r ≠ main_v2) : W3 m d (Proc.devRef (τ := τ) Proc.tc r) = W2 m d (Proc.devRef (τ := τ) Proc.tc r) := by
  unfold W3; rw [StableHlo.reshape_result_ne]; exact h
theorem W3_v0 (d : Dev nD) : W3 m d (Proc.devRef (τ := τ) Proc.tc main_v0) = XB m d := by
  rw [W3_ne m d _ (by decide), W2_ne m d _ (by decide), W1_v0]

theorem W5_arg (d : Dev nD) (a b : S24x3x8.Idx → F .f32) : W5 m d a b (Proc.devRef (τ := τ) Proc.tc main_arg0) = m ((d.tc : Thread nD τ).loc main_arg0) := by
  unfold W5 W4
  rw [Function.update_of_ne (by decide), Function.update_of_ne (by decide), Function.update_of_ne (by decide), Function.update_of_ne (by decide),
    W3_ne m d _ (by decide), W2_ne m d _ (by decide), W1_ne m d _ (by decide)]
  rfl

theorem W4_ne (d : Dev nD) (a b : S24x3x8.Idx → F .f32) (r : DevRef τ sig) (h0 : r ≠ (Proc.devRef (τ := τ) Proc.tc main_v3_0)) (h1 : r ≠ (Proc.devRef (τ := τ) Proc.tc main_v3_1)) : W4 m d a b r = W3 m d r := by
  unfold W4; rw [Function.update_of_ne h1, Function.update_of_ne h0]
theorem W4_v3_0 (d : Dev nD) (a b : S24x3x8.Idx → F .f32) : W4 m d a b (Proc.devRef (τ := τ) Proc.tc main_v3_0) = a := by
  unfold W4; rw [Function.update_of_ne (by decide), Function.update_self]
theorem W4_v3_1 (d : Dev nD) (a b : S24x3x8.Idx → F .f32) : W4 m d a b (Proc.devRef (τ := τ) Proc.tc main_v3_1) = b := by
  unfold W4; rw [Function.update_self]
theorem W5_ne (d : Dev nD) (a b : S24x3x8.Idx → F .f32) (r : DevRef τ sig) (h0 : r ≠ (Proc.devRef (τ := τ) Proc.tc main_v4_0)) (h1 : r ≠ (Proc.devRef (τ := τ) Proc.tc main_v4_1)) : W5 m d a b r = W4 m d a b r := by
  unfold W5; rw [Function.update_of_ne h1, Function.update_of_ne h0]
theorem W5_v4_0 (d : Dev nD) (a b : S24x3x8.Idx → F .f32) : W5 m d a b (Proc.devRef (τ := τ) Proc.tc main_v4_0) = (k2_pay2 (scMat m d) : S132x16.Idx → F .f32) := by
  unfold W5; rw [Function.update_of_ne (by decide), Function.update_self]
theorem W5_v4_1 (d : Dev nD) (a b : S24x3x8.Idx → F .f32) : W5 m d a b (Proc.devRef (τ := τ) Proc.tc main_v4_1) = (k2_pay1 a b : S72x16.Idx → F .f32) := by
  unfold W5; rw [Function.update_self]

theorem W4_SR1 (d : Dev nD) (a b : S24x3x8.Idx → F .f32) :
    (iprop(((d.tc : Thread nD τ).loc main_v0 ↦{fullShare} W3 m d (Proc.devRef (τ := τ) Proc.tc main_v0)) ∗ ((d.tc : Thread nD τ).loc main_v3_0 ↦{fullShare} a)
      ∗ (d.tc : Thread nD τ).loc main_v3_1 ↦{fullShare} b) : sProp 𝕄) = held (d.tc : Thread nD τ) SR1 (W4 m d a b) := by
  rw [held_SR1, W4_v3_0, W4_v3_1, W4_ne m d a b _ (by decide) (by decide)]

theorem W5_SR2 (d : Dev nD) (a b : S24x3x8.Idx → F .f32) :
    (iprop(((d.tc : Thread nD τ).loc main_v2 ↦{fullShare} W4 m d a b (Proc.devRef (τ := τ) Proc.tc main_v2)) ∗ ((d.tc : Thread nD τ).loc main_v3_0 ↦{fullShare} W4 m d a b (Proc.devRef (τ := τ) Proc.tc main_v3_0))
      ∗ ((d.tc : Thread nD τ).loc main_v3_1 ↦{fullShare} W4 m d a b (Proc.devRef (τ := τ) Proc.tc main_v3_1))
      ∗ ((d.tc : Thread nD τ).loc main_v4_0 ↦{fullShare} (k2_pay2 (W4 m d a b (Proc.devRef (τ := τ) Proc.tc main_v2) : S132x2048.Idx → F .f32) : S132x16.Idx → F .f32))
      ∗ ((d.tc : Thread nD τ).loc main_v4_1 ↦{fullShare} (k2_pay1 (W4 m d a b (Proc.devRef (τ := τ) Proc.tc main_v3_0) : S24x3x8.Idx → F .f32) (W4 m d a b (Proc.devRef (τ := τ) Proc.tc main_v3_1) : S24x3x8.Idx → F .f32) : S72x16.Idx → F .f32))) : sProp 𝕄)
      = held (d.tc : Thread nD τ) SR2 (W5 m d a b) := by
  rw [held_SR2, W5_v4_0, W5_v4_1, W5_ne m d a b _ (by decide) (by decide), W5_ne m d a b _ (by decide) (by decide), W5_ne m d a b _ (by decide) (by decide),
    W4_v3_0, W4_v3_1, W4_ne m d a b _ (by decide) (by decide), W3_v2]

theorem W6_SF (d : Dev nD) (a b : S24x3x8.Idx → F .f32) : (held (d.tc : Thread nD τ) SF (StableHlo.after opsE (W5 m d a b)) : sProp 𝕄) =
    iprop(((d.tc : Thread nD τ).loc main_arg0 ↦{fullShare} m ((d.tc : Thread nD τ).loc main_arg0))
      ∗ ((d.tc : Thread nD τ).loc main_v26 ↦{fullShare} (tailVal (k2_pay2 (scMat m d)) (k2_pay1 a b) : S1x3258.Idx → F .f32))) := by
  rw [held_SF, tail_arg, tail_result, W5_arg, W5_v4_0, W5_v4_1]

/-! ## The ghost state -/

abbrev phinj : Function.Injective (Pipeline.cellOf (nD := nD) (τ := τ) (pin (pcfgs (F := F)) adm)) := cellOf_inj

/-- What the TensorCore's two calls need of the ghost state, on device `d`. -/
def G (d : Dev nD) : sProp 𝕄 :=
  iprop((bigSep Finset.univ fun p : Fin 2 => Pipeline.cellsGhost (pin (pcfgs (F := F)) adm) EP p d)
    ∗ bigSep Finset.univ fun p : Fin 2 => Pipeline.toksInit (pin (pcfgs (F := F)) adm) EP p d)

def u₀ : UU := (initOf (K (F := F)).hsCells (K (F := F)).hsToks,
  (initOf (Pipeline.cells (pin (pcfgs (F := F)) adm) phinj) (Pipeline.launchToks (pin (pcfgs (F := F)) adm) phinj), 1))

theorem Px_emp (X : (d : Dev nD) → Buf (Elt F) (xLoc d)) (Y : (d : Dev nD) → Buf (Elt F) (oLoc d)) (thr : Thread nD τ) :
    (bigSep Finset.univ fun q : Fin 1 => (P X Y).x q thr) = (iprop(emp) : sProp 𝕄) := bigSep_univ_of_subsingleton (0 : Fin 1)

theorem own_pairE (a : UP) (b : Counters) : (BI.own (embR (a, b)) : sProp 𝕄) ⊢ iprop(BI.own (EP a) ∗ BI.own (((Emb.inr : Emb Counters (UP × Counters)).trans embR) b)) :=
  own_pair_emb embR a b

theorem hu₀ (X : (d : Dev nD) → Buf (Elt F) (xLoc d)) (Y : (d : Dev nD) → Buf (Elt F) (oLoc d)) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P X Y).x q thr) := by
  rw [(bigSep_congr fun thr _ => Px_emp X Y thr).trans (bigSep_emp_const _)]
  unfold u₀ G
  rw [bigSep_sep']
  iintro Hu
  ihave H := (ownU_pair _ _) $$ Hu
  icases H with ⟨HH, HK⟩
  ihave HK := (own_pairE _ _) $$ HK
  icases HK with ⟨HP, -⟩
  imod (Pipeline.fund_ghost (pin (pcfgs (F := F)) adm) EP phinj) $$ HP with ⟨Hc, Ht⟩
  imodintro
  isplitl [HH]; · iexact HH
  isplitl [Hc Ht]
  · isplitl [Hc]; · iexact Hc
    iexact Ht
  iempintro

/-- Between the SparseCore call and the end the TensorCore owes nothing. -/
theorem tcSt_owes (d : Dev nD) :
    ((K (F := F)).tcSt EH d 1 : sProp 𝕄) ⊢ iprop(owesB (F := F) d ∗ (owesB (F := F) d -∗ (K (F := F)).tcSt EH d 1)) := by
  unfold SparseCore.Cfg.tcSt owesB
  rw [SparseCore.Cfg.Otc_end _ d (le_refl 1)]
  iintro ⟨HO, Hr⟩
  isplitl [HO]; · iexact HO
  iintro HO
  isplitl [HO]; · iexact HO
  iexact Hr

/-! ## The host program -/

/-- What the host program leaves on device `d`: the argument as it was, the result of the statistics of the SparseCore's
    sums and of some partial sums of the TensorCore's blocks. -/
def FIN (d : Dev nD) : sProp 𝕄 :=
  iprop(∃ a b : S24x3x8.Idx → F .f32, ⌜Part (Xt m d) a b⌝
    ∗ ((d.tc : Thread nD τ).loc main_arg0 ↦{fullShare} m ((d.tc : Thread nD τ).loc main_arg0))
    ∗ ((d.tc : Thread nD τ).loc main_v26 ↦{fullShare} (tailVal (k2_pay2 (scMat m d)) (k2_pay1 a b) : S1x3258.Idx → F .f32)))

variable [∀ e, Nonempty (Elt F e)]

theorem hmain (κ : GSem nD τ sig → ℕ) (d : Dev nD) :
    iprop((K (F := F)).ctx EH (P (XB m) (YB m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (d.tc : Thread nD τ) (ucRefs τ sig) (W0 m d)
    from Pipeline.unscopedBufs_held d (W0 m d), main_eq]
  unfold G
  rw [show (Finset.univ : Finset (Fin 2)) = {0, 1} by decide, SparseCore.bigSep_insert' (by decide), SparseCore.bigSep_insert' (by decide),
    bigSep_singleton, bigSep_singleton]
  simp only [wp_bind]
  iintro ⟨#Hctx, Hst, ⟨Hb, Hheld, Hts, -⟩, ⟨Hg0, Hg1⟩, ⟨Ht0, Ht1⟩⟩
  -- the transposition
  iapply (wp_hlo_within 𝒱 (SparseCore.T d) none Set.univ (op := opT) (S := ucRefs τ sig)
    (Pipeline.sub_ucRefs _ (StableHlo.unary_bufs_sub ..)) (V := W0 m d)) $$ [Hb Hheld]
  · isplitl [Hb] <;> iassumption
  iintro ⟨Hb, Hheld⟩
  rw [wp_ret]; imodintro
  -- the SparseCore call
  ihave Hheld := (BIBase.Entails.of_eq (show (held (SparseCore.T d) (ucRefs τ sig) (opT.result (W0 m d)) : sProp 𝕄) = held (d.tc : Thread nD τ) (ucRefs τ sig) (W1 m d) from rfl)) $$ Hheld
  ihave Hheld := (BIBase.Entails.of_eq (StableHlo.held_sub_split (d.tc : Thread nD τ) S01_sub (W1 m d))) $$ Hheld
  icases Hheld with ⟨Ha, Hrest⟩
  ihave Ha := (BIBase.Entails.of_eq (held_S01 d (W1 m d))) $$ Ha
  icases Ha with ⟨Hx, Ho⟩
  ihave Hx := (BIBase.Entails.of_eq (congrArg (fun f => (xLoc d ↦{fullShare} f : sProp 𝕄)) (W1_v0 m d))) $$ Hx
  ihave Ho := (BIBase.Entails.of_eq (congrArg (fun f => (oLoc d ↦{fullShare} f : sProp 𝕄)) (W1_ne m d main_v1 (by decide)))) $$ Ho
  ihave Hd := (deal (XB m) (YB m) d) $$ [Hx Ho]
  · isplitl [Hx]; · iexact Hx
    iexact Ho
  icases Hd with ⟨Hx, Hd⟩
  iapply ((K (F := F)).wp_run (D (F := F)) 𝒱 (EH := EH) (P := P (XB m) (YB m)) κ d 0)
  isplitr; · iexact Hctx
  isplitl [Hst]; · iexact Hst
  isplitl [Hd]; · iexact Hd
  iintro ⟨Hst, Hdn⟩
  ihave Hd := (gather (XB m) (YB m) d) $$ [Hx Hdn]
  · isplitl [Hx]; · iexact Hx
    iexact Hdn
  icases Hd with ⟨Hx, Ho⟩
  ihave Hx := (BIBase.Entails.of_eq (congrArg (fun f => (xLoc d ↦{fullShare} f : sProp 𝕄)) ((W2_ne m d (Proc.devRef (τ := τ) Proc.tc main_v0) (by decide)).trans (W1_v0 m d)).symm)) $$ Hx
  ihave Ho := (BIBase.Entails.of_eq (congrArg (fun f => (oLoc d ↦{fullShare} f : sProp 𝕄)) (W2_v1 m d).symm)) $$ Ho
  ihave Hheld := ((sep_mono_left (BIBase.Entails.of_eq (held_S01 d (W2 m d)).symm)).trans (held_put d S01_sub (W1 m d) (W2 m d) (fun b hb =>
    (W2_ne m d b (fun e => (Finset.mem_sdiff.mp hb).2 (e ▸ by decide))).symm))) $$ [Hx Ho Hrest]
  · isplitl [Hx Ho]
    · isplitl [Hx]; · iexact Hx
      iexact Ho
    iexact Hrest
  -- the reshape of its result
  iapply (wp_hlo_within 𝒱 (SparseCore.T d) none Set.univ (op := opR) (S := ucRefs τ sig)
    (Pipeline.sub_ucRefs _ (StableHlo.reshape_bufs_sub ..)) (V := W2 m d)) $$ [Hb Hheld]
  · isplitl [Hb] <;> iassumption
  iintro ⟨Hb, Hheld⟩
  rw [wp_ret]; imodintro
  ihave Hst := (show ((K (F := F)).tcSt EH d ((0 : Fin 1).val + 1) : sProp 𝕄) ⊢ _ from tcSt_owes d) $$ Hst
  icases Hst with ⟨HO, Hst⟩
  ihave #HL := (SparseCore.Cfg.ctx_levAts κ) $$ Hctx
  -- the first TensorCore call
  ihave Hheld := (BIBase.Entails.of_eq (show (held (SparseCore.T d) (ucRefs τ sig) (opR.result (W2 m d)) : sProp 𝕄) = held (d.tc : Thread nD τ) (ucRefs τ sig) (W3 m d) from rfl)) $$ Hheld
  ihave Hheld := (BIBase.Entails.of_eq (StableHlo.held_sub_split (d.tc : Thread nD τ) SR1_sub (W3 m d))) $$ Hheld
  icases Hheld with ⟨Ha, Hrest⟩
  ihave Ha := (BIBase.Entails.of_eq (held_SR1 d (W3 m d))) $$ Ha
  iapply (wp_region1 (F := F) d (W3 m d (Proc.devRef (τ := τ) Proc.tc main_v0)) (W3 m d (Proc.devRef (τ := τ) Proc.tc main_v3_0)) (W3 m d (Proc.devRef (τ := τ) Proc.tc main_v3_1)))
  isplitr [Hb Ha HO Hg0 Ht0]
  rotate_left
  · isplitl [Hb]; · iexact Hb
    isplitl [Ha]; · iexact Ha
    isplitl [HO]; · iexact HO
    isplitr; · iexact HL
    isplitl [Hg0]; · iexact Hg0
    iexact Ht0
  iintro ⟨%a, %b, %hp, Hb, Ha, HO⟩
  ihave Ha := (BIBase.Entails.of_eq (W4_SR1 m d a b)) $$ Ha
  ihave Hheld := (held_put d SR1_sub (W3 m d) (W4 m d a b) (fun r hr => (W4_ne m d a b r
    (fun e => (Finset.mem_sdiff.mp hr).2 (e ▸ by decide)) (fun e => (Finset.mem_sdiff.mp hr).2 (e ▸ by decide))).symm)) $$ [Ha Hrest]
  · isplitl [Ha] <;> iassumption
  -- the second
  ihave Hheld := (BIBase.Entails.of_eq (StableHlo.held_sub_split (d.tc : Thread nD τ) SR2_sub (W4 m d a b))) $$ Hheld
  icases Hheld with ⟨Ha, Hrest⟩
  ihave Ha := (BIBase.Entails.of_eq (held_SR2 d (W4 m d a b))) $$ Ha
  iapply (wp_region2 (F := F) d (W4 m d a b (Proc.devRef (τ := τ) Proc.tc main_v2)) (W4 m d a b (Proc.devRef (τ := τ) Proc.tc main_v3_0)) (W4 m d a b (Proc.devRef (τ := τ) Proc.tc main_v3_1)) (W4 m d a b (Proc.devRef (τ := τ) Proc.tc main_v4_0)) (W4 m d a b (Proc.devRef (τ := τ) Proc.tc main_v4_1)))
  isplitr [Hb Ha HO Hg1 Ht1]
  rotate_left
  · isplitl [Hb]; · iexact Hb
    isplitl [Ha]; · iexact Ha
    isplitl [HO]; · iexact HO
    isplitr; · iexact HL
    isplitl [Hg1]; · iexact Hg1
    iexact Ht1
  iintro ⟨Hb, Ha, HO⟩
  ihave Ha := (BIBase.Entails.of_eq (W5_SR2 m d a b)) $$ Ha
  ihave Hheld := (held_put d SR2_sub (W4 m d a b) (W5 m d a b) (fun r hr => (W5_ne m d a b r
    (fun e => (Finset.mem_sdiff.mp hr).2 (e ▸ by decide)) (fun e => (Finset.mem_sdiff.mp hr).2 (e ▸ by decide))).symm)) $$ [Ha Hrest]
  · isplitl [Ha] <;> iassumption
  ispecialize Hst $$ HO
  -- the rest of the host program
  rw [← bind_pure (StableHlo.seq (opsE (F := F)))]
  iapply (StableHlo.wp_seq 𝒱 none Set.univ d (ucRefs τ sig) _ opsE opsE_uc opsE_fresh (W5 m d a b)) $$ [Hb Hheld]
  · isplitl [Hb] <;> iassumption
  iintro ⟨Hb, Hheld⟩
  rw [wp_pure]; imodintro
  ihave Hheld := (BIBase.Entails.of_eq (StableHlo.held_sub_split (d.tc : Thread nD τ) SF_sub (StableHlo.after opsE (W5 m d a b)))) $$ Hheld
  icases Hheld with ⟨Ha, -⟩
  ihave Ha := (BIBase.Entails.of_eq (W6_SF m d a b)) $$ Ha
  isplitl [Hst]; · iexact Hst
  isplitl [Ha]
  · unfold FIN
    iexists a, b
    isplitr
    · ipureintro; rw [W3_v0] at hp; exact hp
    iexact Ha
  isplitl [Hb] <;> iassumption

/-! ## The run -/

/-- What the run leaves on device `d`. -/
def fq (d : Dev nD) (s' : Phys nD τ sig (Elt F)) : Prop :=
  s'.mem.mem ((d.tc : Thread nD τ).loc main_arg0) = m ((d.tc : Thread nD τ).loc main_arg0)
    ∧ ∃ a b : S24x3x8.Idx → F .f32, Part (Xt m d) a b
      ∧ s'.mem.mem ((d.tc : Thread nD τ).loc main_v26) = (tailVal (k2_pay2 (scMat m d)) (k2_pay1 a b) : S1x3258.Idx → F .f32)

theorem hfin (d : Dev nD) (s' : Phys nD τ sig (Elt F)) : iprop(FIN m d ∗ SI s') ⊢ (⌜fq m d s'⌝ : sProp 𝕄) := by
  unfold FIN
  iintro ⟨⟨%a, %b, %hp, Hx, Ho⟩, HSI⟩
  ihave H := (persistent_entails_right (SI_pointsTo_agree (st := s') (ℓ := (d.tc : Thread nD τ).loc main_arg0) (I := Finset.univ) (q := fullShare)
    (f := m ((d.tc : Thread nD τ).loc main_arg0)))) $$ [HSI Hx]
  · isplitl [HSI] <;> iassumption
  icases H with ⟨%h1, HSI, -⟩
  ihave H := (SI_pointsTo_agree (st := s') (ℓ := (d.tc : Thread nD τ).loc main_v26) (I := Finset.univ) (q := fullShare)
    (f := (tailVal (k2_pay2 (scMat m d)) (k2_pay1 a b) : S1x3258.Idx → F .f32))) $$ [HSI Ho]
  · isplitl [HSI] <;> iassumption
  icases H with %h2
  ipureintro
  exact ⟨funext fun i => h1 i (Finset.mem_univ i), a, b, hp, funext fun i => h2 i (Finset.mem_univ i)⟩

def QC : PUnit × MemSt nD τ sig (Elt F) → Prop := fun r =>
  (∀ d : Dev nD, r.2.mem ((d.tc : Thread nD τ).loc main_arg0) = m ((d.tc : Thread nD τ).loc main_arg0)
    ∧ ∃ a b : S24x3x8.Idx → F .f32, Part (Xt m d) a b
      ∧ r.2.mem ((d.tc : Thread nD τ).loc main_v26) = (tailVal (k2_pay2 (scMat m d)) (k2_pay1 a b) : S1x3258.Idx → F .f32))
    ∧ r.2.sem = fun _ => 0

/-- The program runs from any memory: its argument kept, its counters at zero, its result the statistics. -/
theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (XB m) (YB m)) (A := ∅) facts v₀
    (fun q hq => match q with | 0 => nomatch hq)
    (fun q _ => match q with | 0 => tileObl (XB m) (YB m))
    (fun q _ => match q with | 0 => SparseCore.Cfg.VecSplit.of_plain (vecSplit (XB m) (YB m)))
    m ρ main (fun d => G (F := F) d) (FIN m) (u₀ (F := F)) (sep_elim_left.trans (hu₀ (XB m) (YB m))) (hmain m ρ) (fq m) (hfin m) (QC m) (fun _ h hz => ⟨h, hz⟩)

end Cert.Proof.Tile

end
-- ==== Proof.Frames.lean ====
/-
  The frames of the two printings of the kernel: one run, read at the two instances.
-/
module

public import proofs.«01_k».proof.Proof.Main

@[expose] public section

noncomputable section

namespace Cert.Proof

open Idealize.ShloMosaic Idealize.SL.Sem

theorem frame_kernelIdeal : Cert.quiescent_KernelIdeal := fun m g _ =>
  (θ_run Cert.KernelIdeal.defs _ _).mono (fun _ h => ⟨fun c => (h.1 c).1, h.2⟩) (Tile.run_main (F := Ideal) m g)

/-! The two printings have the same text. -/

theorem body0_eq : Cert.Kernel.cc0__sc_body (F := Bits) = Cert.KernelIdeal.cc0__sc_body (F := Bits) := rfl
theorem body1_eq : Cert.Kernel.cc1__tc_partial_body (F := Bits) = Cert.KernelIdeal.cc1__tc_partial_body (F := Bits) := rfl
theorem body2_eq : Cert.Kernel.cc2__finalize_body (F := Bits) = Cert.KernelIdeal.cc2__finalize_body (F := Bits) := rfl

theorem defs₀_eq : Cert.Kernel.defs₀ (F := Bits) = Cert.KernelIdeal.defs₀ (F := Bits) := by
  funext p ℓ a
  rcases p with _ | c | ⟨c, s⟩ <;> fin_cases ℓ <;> rfl

theorem defs_eq : Cert.Kernel.defs (F := Bits) = Cert.KernelIdeal.defs (F := Bits) :=
  congrArg (fun D => (Cert.KernelIdeal.sc (F := Bits)).defs (Pipeline.defs Cert.KernelIdeal.pcfgs D)) defs₀_eq

theorem frame_kernel : Cert.quiescent_Kernel := by
  intro m g _
  rw [defs_eq]
  exact (θ_run Cert.KernelIdeal.defs _ _).mono (fun _ h => ⟨fun c => (h.1 c).1, h.2⟩) (Tile.run_main (F := Bits) m g)

end Cert.Proof

end
-- ==== Proof.RefFrame.lean ====
/-
  The frame of the reference: its run, with the value dropped.
-/
module

public import proofs.«01_k».proof.Defs
public import Idealize.ShloMosaic.Lib.Quiescent
public import proofs.«01_k».proof.Proof.Gen.ReferenceIdeal.Run

@[expose] public section

noncomputable section

namespace Cert.Proof

open Idealize.ShloMosaic Idealize.SL.Sem

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.Proof

end
-- ==== Proof.Moments.lean ====
/-
  Mean and deviation of 16384 extended reals, each replaced by zero where it is infinite: from the sum and the sum of
  squares, and from the deviations about the mean. The two agree for every column, an infinite entry included: there both
  means are infinite, the first variance is the junk of a difference of infinities and so at most zero, and the second is
  infinite; each of them counts as zero.
-/
module

public import Idealize.ShloMosaic.PureOps.Ideal
public import Idealize.ShloMosaic.PureOps.Ideal.Laws

@[expose] public section

noncomputable section

namespace Cert.Proof.Moments

open Idealize.ShloMosaic

/-- An infinite value counts as zero. -/
def orZero (x : EReal) : EReal := if x = ⊤ ∨ x = ⊥ then 0 else x

/-- One over the number of rows. -/
def invRows : EReal := (((1 : ℝ) / 16384 : ℝ) : EReal)

/-- The mean and the deviation from a sum and a sum of squares. -/
def meanOf (s : EReal) : EReal := s * invRows
def devOf (s q : EReal) : EReal := Ideal.sqrt (max (q * invRows - meanOf s * meanOf s) 0)

variable {ι : Type} [Fintype ι]

/-- The mean and the deviation of a column, as they are defined. -/
def mean (f : ι → EReal) : EReal := Ideal.div (∑ r, f r) ((16384 : ℝ) : EReal)
def dev (f : ι → EReal) : EReal := Ideal.sqrt (Ideal.div (∑ r, (f r - mean f) * (f r - mean f)) ((16384 : ℝ) : EReal))

theorem div_rows (x : EReal) : Ideal.div x ((16384 : ℝ) : EReal) = x * invRows := by
  have h : ((16384 : ℝ) : EReal) ≠ 0 := by
    intro h
    have := EReal.coe_eq_zero.mp h
    norm_num at this
  unfold Ideal.div invRows
  rw [if_neg h, ← EReal.coe_inv, one_div]

theorem mean_eq (f : ι → EReal) : mean f = meanOf (∑ r, f r) := div_rows _

theorem inv_pos : (0 : EReal) < invRows := EReal.coe_pos.mpr (by norm_num)

theorem top_mul_inv : (⊤ : EReal) * invRows = ⊤ := EReal.top_mul_of_pos inv_pos
theorem bot_mul_inv : (⊥ : EReal) * invRows = ⊥ := EReal.bot_mul_of_pos inv_pos

/-- A finite sum has finite terms. -/
theorem finite_of_sum (s : Finset ι) (f : ι → EReal) (ht : ∑ r ∈ s, f r ≠ ⊤) (hb : ∑ r ∈ s, f r ≠ ⊥) :
    ∀ r ∈ s, f r ≠ ⊤ ∧ f r ≠ ⊥ := by
  classical
  induction s using Finset.induction_on with
  | empty => intro r h; simp at h
  | insert a s ha ih =>
    rw [Finset.sum_insert ha] at ht hb
    have h1 : f a ≠ ⊥ := fun h => hb (by rw [h, EReal.bot_add])
    have h2 : ∑ r ∈ s, f r ≠ ⊥ := fun h => hb (by rw [h, EReal.add_bot])
    have h3 : f a ≠ ⊤ := fun h => ht (by rw [h, EReal.top_add_of_ne_bot h2])
    have h4 : ∑ r ∈ s, f r ≠ ⊤ := fun h => ht (by rw [h, EReal.add_top_of_ne_bot h1])
    intro r hr
    rcases Finset.mem_insert.mp hr with rfl | hr
    · exact ⟨h3, h1⟩
    · exact ih h4 h2 r hr

theorem mul_self_nonneg' (x : EReal) : 0 ≤ x * x := by
  induction x with
  | bot => rw [EReal.bot_mul_bot]; exact le_top
  | top => rw [EReal.top_mul_top]; exact le_top
  | coe x => rw [← EReal.coe_mul]; exact EReal.coe_nonneg.mpr (mul_self_nonneg x)

theorem mul_self_infinite (x : EReal) (h : x = ⊤ ∨ x = ⊥) : x * x = ⊤ := by
  rcases h with rfl | rfl
  · exact EReal.top_mul_top
  · exact EReal.bot_mul_bot

/-- A sum of squares, one of them of an infinity. -/
theorem sum_sq_top (f : ι → EReal) (r : ι) (h : f r = ⊤ ∨ f r = ⊥) : ∑ r, f r * f r = ⊤ := by
  have h1 : f r * f r ≤ ∑ r, f r * f r := Finset.single_le_sum (f := fun r => f r * f r) (fun i _ => mul_self_nonneg' _) (Finset.mem_univ r)
  rw [mul_self_infinite _ h] at h1
  exact top_le_iff.mp h1

theorem sum_coe (s : Finset ι) (g : ι → ℝ) : ∑ r ∈ s, ((g r : ℝ) : EReal) = ((∑ r ∈ s, g r : ℝ) : EReal) := by
  classical
  induction s using Finset.induction_on with
  | empty => simp
  | insert a s ha ih => rw [Finset.sum_insert ha, Finset.sum_insert ha, ih, EReal.coe_add]

/-- The mean of the squares less the square of the mean is the mean square deviation. -/
theorem var_real (hN : Fintype.card ι = 16384) (g : ι → ℝ) (m : ℝ) (hm : m = (∑ r, g r) * (1 / 16384)) :
    (∑ r, (g r - m) * (g r - m)) * (1 / 16384) = (∑ r, g r * g r) * (1 / 16384) - m * m := by
  have e : ∀ r, (g r - m) * (g r - m) = g r * g r - 2 * m * g r + m * m := fun r => by ring
  simp only [e, Finset.sum_add_distrib, Finset.sum_sub_distrib, ← Finset.mul_sum, Finset.sum_const, Finset.card_univ, hN, nsmul_eq_mul]
  have hs : ∑ r, g r = 16384 * m := by rw [hm]; ring
  rw [hs]
  push_cast
  ring

theorem dev_eq (hN : Fintype.card ι = 16384) (f : ι → EReal) :
    orZero (devOf (∑ r, f r) (∑ r, f r * f r)) = orZero (dev f) := by
  unfold devOf dev
  rw [mean_eq, div_rows]
  by_cases hf : ∀ r, f r ≠ ⊤ ∧ f r ≠ ⊥
  · obtain ⟨g, rfl⟩ : ∃ g : ι → ℝ, f = fun r => ((g r : ℝ) : EReal) :=
      ⟨fun r => (f r).toReal, funext fun r => (EReal.coe_toReal (hf r).1 (hf r).2).symm⟩
    unfold meanOf invRows
    simp only [sum_coe, ← EReal.coe_mul, ← EReal.coe_sub]
    rw [var_real hN g _ rfl]
    have h0 : (0 : ℝ) ≤ (∑ r, g r * g r) * (1 / 16384) - (∑ r, g r) * (1 / 16384) * ((∑ r, g r) * (1 / 16384)) := by
      rw [← var_real hN g _ rfl]
      exact mul_nonneg (Finset.sum_nonneg fun r _ => mul_self_nonneg _) (by norm_num)
    rw [max_eq_left (EReal.coe_nonneg.mpr h0)]
  · push Not at hf
    obtain ⟨r, hr⟩ := hf
    have hr' : f r = ⊤ ∨ f r = ⊥ := by
      by_cases h : f r = ⊤
      · exact .inl h
      · exact .inr (hr h)
    have hS : ∑ r, f r = ⊤ ∨ ∑ r, f r = ⊥ := by
      by_contra h
      push Not at h
      have := finite_of_sum Finset.univ f h.1 h.2 r (Finset.mem_univ r)
      exact hr'.elim this.1 this.2
    have hm : meanOf (∑ r, f r) = ⊤ ∨ meanOf (∑ r, f r) = ⊥ := by
      unfold meanOf
      rcases hS with h | h <;> rw [h]
      · exact .inl top_mul_inv
      · exact .inr bot_mul_inv
    have hd : f r - meanOf (∑ r, f r) = ⊤ ∨ f r - meanOf (∑ r, f r) = ⊥ := by
      rcases hm with h | h <;> rw [h]
      · right; rw [EReal.sub_top]
      · rcases hr' with h' | h' <;> rw [h']
        · left; rfl
        · right; rfl
    rw [mul_self_infinite _ hm, sum_sq_top f r hr', top_mul_inv, EReal.sub_top, max_eq_right bot_le,
      sum_sq_top (fun r' => f r' - meanOf (∑ r, f r)) r hd, top_mul_inv]
    have hs0 : Ideal.sqrt 0 = 0 := by
      show (if (0 : ℝ) < 0 then (⊥ : EReal) else (Real.sqrt 0 : EReal)) = 0
      rw [if_neg (lt_irrefl _), Real.sqrt_zero]; rfl
    rw [hs0]
    show orZero 0 = orZero ⊤
    unfold orZero
    rw [if_pos (Or.inl rfl), ite_self]

end Cert.Proof.Moments

end
-- ==== Proof.RefColumn.lean ====
/-
  The reference's statistics of a matrix of columns, read at the extended reals: no entry there differs from itself, so that
  the mask of the rows without such an entry keeps every row and counts 16384 of them; what remains is the mean and the
  deviation of each column.
-/
module

public import proofs.«01_k».proof.Proof.Gen.ReferenceIdeal
public import proofs.«01_k».proof.Proof.Moments
public import Idealize.ShloMosaic.Lib.ValueIdx
public import Idealize.ShloMosaic.Lib.ValueIdxRank1
public import Idealize.ShloMosaic.Lib.IdealHost
public import Idealize.ShloMosaic.Lib.Pipeline.Value

@[expose] public section

noncomputable section

namespace Cert.Proof.RefColumn

open Cert.ReferenceIdeal Cert.ReferenceIdeal.Gen
open Idealize.ShloMosaic Idealize.ShloMosaic.ValueIdx
open Cert.Proof.Moments

/-- A matrix of `n` columns, its columns' row, and the row as a matrix. -/
abbrev Mat (n : ℕ) : Shape := ⟨2, ![16384, n]⟩
abbrev Vec (n : ℕ) : Shape := ⟨1, ![n]⟩
abbrev Row (n : ℕ) : Shape := ⟨2, ![1, n]⟩

/-- The shape facts that the statistics of `n` columns use. -/
structure Fits (n : ℕ) : Prop where
  sum : (Mat n).ReducesTo [0] (Vec n)
  sum' : (Mat n).Reduces [0] (Vec n)
  vec : S_.BroadcastsInDim (Vec n) (![] : Fin 0 → Fin (Vec n).rank)
  row : (Vec n).BroadcastsInDim (Row n) (![1] : Fin 1 → Fin (Row n).rank)
  mat : (Row n).BroadcastsInDim (Mat n) (![0, 1] : Fin 2 → Fin (Mat n).rank)

/-- The further facts that the mask of the rows uses. -/
structure MaskFits (n : ℕ) : Prop extends Fits n where
  all : (Mat n).ReducesTo [1] S16384
  keep : S16384x1.BroadcastsInDim (Mat n) (![0, 1] : Fin 2 → Fin (Mat n).rank)
  zero : S_.BroadcastsInDim (Mat n) (![] : Fin 0 → Fin (Mat n).rank)

variable {n : ℕ}

/-! ## Literals -/

theorem ofBits_rows : Ideal.ofBits .f32 0x46800000#32 = ((16384 : ℝ) : EReal) := by
  simp [Ideal.ofBits, Ideal.ieee, -EReal.coe_mul]; norm_num

theorem ofBits_top : Ideal.ofBits .f32 0x7F800000#32 = (⊤ : EReal) := by
  simp [Ideal.ofBits, Ideal.ieee]

def zeroS : FVec Ideal S_ .f32 := constant S_ .f32 0x00000000#32
def rowsS : FVec Ideal S_ .f32 := constant S_ .f32 0x46800000#32

theorem zeroS_apply (i : S_.Idx) : zeroS i = (0 : EReal) := Ideal.ofBits_zero_f32
theorem rowsS_apply (i : S_.Idx) : rowsS i = ((16384 : ℝ) : EReal) := ofBits_rows

theorem hostSqrt_apply {s : Shape} (x : FVec Ideal s .f32) (i : s.Idx) : Host.sqrt x i = Ideal.sqrt (x i) := rfl

/-! ## Sums down the columns, and rows spread over the matrix -/

theorem sum_apply (h : Fits n) (x : FVec Ideal (Mat n) .f32) (j : Fin n) :
    Host.reduceAdd x zeroS h.sum h_S_ (ix1 j) = ∑ r : Fin 16384, x (ix2 r j) := by
  rw [hostReduceAdd_apply, Ideal.hostReduceAdd_single h.sum h.sum', zeroS_apply, zero_add]
  refine Finset.sum_congr rfl fun r _ => congrArg x ?_
  rw [eq_ix2 (h.sum'.lift (ix1 j) r)]
  rfl

theorem coord_eq (j : Fin n) : j.val = if n = 1 then 0 else j.val := by
  split_ifs with h
  · omega
  · rfl

/-- A row of values spread over the rows of the matrix. -/
def spread {α : Type} (h : Fits n) (x : (Row n).Idx → α) : (Mat n).Idx → α := broadcastInDim (Mat n) ![0, 1] h.mat x

theorem spread_apply {α : Type} (h : Fits n) (x : (Row n).Idx → α) (r : Fin 16384) (j : Fin n) :
    spread h x (ix2 r j) = x (ix2 (0 : Fin 1) j) :=
  broadcastInDim_apply _ _ _ _ (ix2 (0 : Fin 1) j) fun a => by
    match a with
    | ⟨0, _⟩ => rfl
    | ⟨1, _⟩ => exact coord_eq j

def asRow {α : Type} (h : Fits n) (x : (Vec n).Idx → α) : (Row n).Idx → α := broadcastInDim (Row n) ![1] h.row x

theorem asRow_apply {α : Type} (h : Fits n) (x : (Vec n).Idx → α) (j : Fin n) : asRow h x (ix2 (0 : Fin 1) j) = x (ix1 j) :=
  broadcastInDim_apply _ _ _ _ (ix1 j) fun a => by
    match a with
    | ⟨0, _⟩ => exact coord_eq j

/-! ## The masked statistics -/

/-- The rows in which every entry equals itself. -/
def good (h : MaskFits n) (x : FVec Ideal (Mat n) .f32) : IVec S16384 1 :=
  Host.reduce IntOp.andi (noti (cmpf .une x x)) (constantI S_ 1 1#1) h.all h_S_

theorem fold_ones {ι : Type} (s : Finset ι) (f : ι → BitVec 1) (hf : ∀ i, f i = 1#1) : s.fold IntOp.andi 1#1 f = 1#1 := by
  classical
  induction s using Finset.induction_on with
  | empty => rfl
  | insert a s ha ih => rw [Finset.fold_insert ha, ih, hf]; rfl

theorem good_apply (h : MaskFits n) (x : FVec Ideal (Mat n) .f32) (r : S16384.Idx) : good h x r = 1#1 := by
  unfold good
  rw [Host.reduce_eq_fold]
  refine fold_ones _ _ fun i => ?_
  show ~~~(BitVec.ofBool (decide (x i ≠ x i))) = 1#1
  rw [decide_eq_false (fun h => h rfl)]
  rfl

def keepV (h : MaskFits n) (x : FVec Ideal (Mat n) .f32) : IVec (Mat n) 1 :=
  broadcastInDim (Mat n) ![0, 1] h.keep (broadcastInDim S16384x1 ![0] bcast_S16384_S16384x1_0 (good h x))

theorem keepV_apply (h : MaskFits n) (x : FVec Ideal (Mat n) .f32) (i : (Mat n).Idx) : keepV h x i = 1#1 := good_apply h x _

def masked (h : MaskFits n) (x y : FVec Ideal (Mat n) .f32) : FVec Ideal (Mat n) .f32 :=
  select (keepV h x) y (broadcastInDim (Mat n) ![] h.zero (id zeroS))

theorem masked_eq (h : MaskFits n) (x y : FVec Ideal (Mat n) .f32) : masked h x y = y := by
  funext i
  unfold masked
  rw [select_apply, keepV_apply]
  rfl

def count (h : MaskFits n) (x : FVec Ideal (Mat n) .f32) : FVec Ideal (Vec n) .f32 :=
  broadcastInDim (Vec n) ![] h.vec (Host.reduceAdd (uitofp .f32 (good h x)) zeroS reducesTo_S16384_S_d0 h_S_)

theorem sum_ones : ∑ _r : Fin 16384, ((1 : ℝ) : EReal) = ((16384 : ℝ) : EReal) := by
  rw [sum_coe, Finset.sum_const, Finset.card_univ, Fintype.card_fin, nsmul_eq_mul, mul_one]
  norm_cast

theorem count_apply (h : MaskFits n) (x : FVec Ideal (Mat n) .f32) (j : Fin n) : count h x (ix1 j) = ((16384 : ℝ) : EReal) := by
  unfold count
  rw [broadcastInDim_scalar_apply, hostReduceAdd_apply]
  refine (Ideal.hostReduceAdd_total _ (fun b => b.elim0) _ _ _).trans ?_
  rw [zeroS_apply, zero_add, ← Equiv.sum_comp (idxEquiv1 (n := 16384)).symm, ← sum_ones]
  refine Finset.sum_congr rfl fun r _ => ?_
  show (((good h x _).toNat : ℝ) : EReal) = _
  rw [good_apply]
  norm_num

def mMean (h : MaskFits n) (x : FVec Ideal (Mat n) .f32) : FVec Ideal (Vec n) .f32 :=
  Host.divf (Host.reduceAdd (masked h x x) zeroS h.sum h_S_) (count h x)

def mDevs (h : MaskFits n) (x : FVec Ideal (Mat n) .f32) : FVec Ideal (Mat n) .f32 :=
  masked h x (subf x (spread h.toFits (asRow h.toFits (mMean h x))))

def mDev (h : MaskFits n) (x : FVec Ideal (Mat n) .f32) : FVec Ideal (Vec n) .f32 :=
  Host.sqrt (Host.divf (Host.reduceAdd (mulf (mDevs h x) (mDevs h x)) zeroS h.sum h_S_) (count h x))

theorem mMean_apply (h : MaskFits n) (x : FVec Ideal (Mat n) .f32) (j : Fin n) :
    mMean h x (ix1 j) = mean fun r : Fin 16384 => x (ix2 r j) := by
  unfold mMean mean
  rw [hostDivf_apply, count_apply, masked_eq, sum_apply h.toFits]

theorem mDev_apply (h : MaskFits n) (x : FVec Ideal (Mat n) .f32) (j : Fin n) :
    mDev h x (ix1 j) = dev fun r : Fin 16384 => x (ix2 r j) := by
  unfold mDev
  rw [hostSqrt_apply, hostDivf_apply]
  have e : ∀ r : Fin 16384, mulf (mDevs h x) (mDevs h x) (ix2 r j)
      = (x (ix2 r j) - mean fun r : Fin 16384 => x (ix2 r j)) * (x (ix2 r j) - mean fun r : Fin 16384 => x (ix2 r j)) := by
    intro r
    have e : mDevs h x (ix2 r j) = x (ix2 r j) - mean fun r : Fin 16384 => x (ix2 r j) := by
      unfold mDevs
      rw [masked_eq]
      show x (ix2 r j) - spread h.toFits (asRow h.toFits (mMean h x)) (ix2 r j) = _
      rw [spread_apply, asRow_apply, mMean_apply]
    show mDevs h x (ix2 r j) * mDevs h x (ix2 r j) = _
    rw [e]
  rw [count_apply, sum_apply h.toFits, Finset.sum_congr rfl fun r _ => e r]
  rfl

/-! ## The statistics without a mask -/

def pMean (h : Fits n) (x : FVec Ideal (Mat n) .f32) : FVec Ideal (Vec n) .f32 :=
  Host.divf (Host.reduceAdd x zeroS h.sum h_S_) (broadcastInDim (Vec n) ![] h.vec rowsS)

/-- The number of rows, less no degree of freedom. -/
def rowsLess : FVec Ideal S_ .f32 := subf rowsS (sitofp .f32 (constantI S_ 32 0#32))

theorem rowsLess_apply (i : S_.Idx) : rowsLess i = ((16384 : ℝ) : EReal) := by
  show rowsS i - (((0#32 : BitVec 32).toInt : ℝ) : EReal) = _
  rw [rowsS_apply]
  simp

def pDevs (h : Fits n) (h1 : S_.BroadcastsInDim (Row n) (![] : Fin 0 → Fin (Row n).rank)) (x : FVec Ideal (Mat n) .f32) : FVec Ideal (Mat n) .f32 :=
  subf x (spread h (Host.divf (asRow h (Host.reduceAdd x zeroS h.sum h_S_)) (broadcastInDim (Row n) ![] h1 rowsS)))

def pDev (h : Fits n) (h1 : S_.BroadcastsInDim (Row n) (![] : Fin 0 → Fin (Row n).rank)) (x : FVec Ideal (Mat n) .f32) : FVec Ideal (Vec n) .f32 :=
  Host.sqrt (select (broadcastInDim (Vec n) ![] h.vec (cmpf .ogt rowsLess zeroS))
    (Host.divf (Host.reduceAdd (mulf (pDevs h h1 x) (pDevs h h1 x)) zeroS h.sum h_S_) (broadcastInDim (Vec n) ![] h.vec rowsLess))
    (broadcastInDim (Vec n) ![] h.vec (id (constant S_ .f32 0x7FC00000#32))))

theorem pMean_apply (h : Fits n) (x : FVec Ideal (Mat n) .f32) (j : Fin n) :
    pMean h x (ix1 j) = mean fun r : Fin 16384 => x (ix2 r j) := by
  unfold pMean mean
  rw [hostDivf_apply, broadcastInDim_scalar_apply, rowsS_apply, sum_apply h]

theorem pDev_apply (h : Fits n) (h1 : S_.BroadcastsInDim (Row n) (![] : Fin 0 → Fin (Row n).rank)) (x : FVec Ideal (Mat n) .f32) (j : Fin n) :
    pDev h h1 x (ix1 j) = dev fun r : Fin 16384 => x (ix2 r j) := by
  have hc : (broadcastInDim (Vec n) ![] h.vec (cmpf .ogt rowsLess zeroS) : IVec (Vec n) 1) (ix1 j) = 1#1 := by
    rw [broadcastInDim_scalar_apply]
    show BitVec.ofBool (decide (zeroS ix0 < rowsLess ix0)) = 1#1
    rw [zeroS_apply, rowsLess_apply, decide_eq_true (EReal.coe_pos.mpr (by norm_num))]
    rfl
  have hs : pDev h h1 x (ix1 j) = Ideal.sqrt (Ideal.div (Host.reduceAdd (mulf (pDevs h h1 x) (pDevs h h1 x)) zeroS h.sum h_S_ (ix1 j))
      ((broadcastInDim (Vec n) ![] h.vec rowsLess : FVec Ideal (Vec n) .f32) (ix1 j))) := by
    unfold pDev
    rw [hostSqrt_apply, select_apply, hc, ← hostDivf_apply]
    rfl
  have e : ∀ r : Fin 16384, mulf (pDevs h h1 x) (pDevs h h1 x) (ix2 r j)
      = (x (ix2 r j) - mean fun r : Fin 16384 => x (ix2 r j)) * (x (ix2 r j) - mean fun r : Fin 16384 => x (ix2 r j)) := by
    intro r
    have e : pDevs h h1 x (ix2 r j) = x (ix2 r j) - mean fun r : Fin 16384 => x (ix2 r j) := by
      show x (ix2 r j) - spread h _ (ix2 r j) = _
      rw [spread_apply, hostDivf_apply, asRow_apply, broadcastInDim_scalar_apply, rowsS_apply, sum_apply h]
      rfl
    show pDevs h h1 x (ix2 r j) * pDevs h h1 x (ix2 r j) = _
    rw [e]
  rw [hs, broadcastInDim_scalar_apply, rowsLess_apply, sum_apply h, Finset.sum_congr rfl fun r _ => e r]
  rfl

/-! ## A value where it is finite -/

variable {t : Shape}

def finite (hb : S_.BroadcastsInDim t (![] : Fin 0 → Fin t.rank)) (x : FVec Ideal t .f32) : FVec Ideal t .f32 :=
  select (cmpf .olt (Host.absf x) (broadcastInDim t ![] hb (constant S_ .f32 0x7F800000#32))) x (broadcastInDim t ![] hb zeroS)

theorem abs_lt_top (x : EReal) : max x (-x) < ⊤ ↔ ¬(x = ⊤ ∨ x = ⊥) := by
  rw [lt_top_iff_ne_top]
  induction x with
  | bot => simp
  | top => simp
  | coe x =>
    rw [← EReal.coe_neg]
    rcases max_choice ((x : ℝ) : EReal) ((-x : ℝ) : EReal) with h | h <;> rw [h] <;> simp

theorem finite_apply (hb : S_.BroadcastsInDim t (![] : Fin 0 → Fin t.rank)) (x : FVec Ideal t .f32) (i : t.Idx) :
    finite hb x i = orZero (x i) := by
  unfold finite
  rw [select_apply, broadcastInDim_scalar_apply, zeroS_apply]
  have hc : cmpf .olt (Host.absf x) (broadcastInDim t ![] hb (constant S_ .f32 0x7F800000#32) : FVec Ideal t .f32) i
      = BitVec.ofBool (decide (max (x i) (-(x i)) < ⊤)) := by
    rw [← ofBits_top]; rfl
  rw [hc]
  unfold orZero
  by_cases h : x i = ⊤ ∨ x i = ⊥
  · rw [if_pos h, decide_eq_false (fun hh => (abs_lt_top _).mp hh h)]; rfl
  · rw [if_neg h, decide_eq_true ((abs_lt_top _).mpr h)]; rfl

end Cert.Proof.RefColumn

end
-- ==== Proof.Stats.lean ====
/-
  What the last TensorCore call makes of the sums, read at the extended reals: each entry of its results is the mean or
  the deviation of one column's sum and sum of squares.
-/
module

public import proofs.«01_k».proof.Proof.Gen.KernelIdeal.Skeleton
public import proofs.«01_k».proof.Proof.Moments
public import Idealize.ShloMosaic.Lib.ValueIdx
public import Idealize.ShloMosaic.Lib.Pipeline.Value

@[expose] public section

noncomputable section

namespace Cert.Proof.Stats

open Cert.KernelIdeal Cert.KernelIdeal.Gen
open Idealize.ShloMosaic Idealize.ShloMosaic.ValueIdx
open Cert.Proof.Moments

/-! ## The literals -/

theorem ofBits_invRows : Ideal.ofBits .f32 0x38800000#32 = invRows := by
  unfold invRows
  simp [Ideal.ofBits, Ideal.ieee, -EReal.coe_mul]; norm_num

/-! ## The finishing of a sum and a sum of squares -/

variable {t : Shape}

def cInv : FVec Ideal t .f32 := broadcast t (Scalar.ofBits .f32 0x38800000#32)
def cZero : FVec Ideal t .f32 := broadcast t (Scalar.ofBits .f32 0x00000000#32)

/-- A value where it is finite, else zero. -/
def finV (x : FVec Ideal t .f32) : FVec Ideal t .f32 := select (xori (weird x) (constantI t 1 1#1)) x cZero
def meanV (s : FVec Ideal t .f32) : FVec Ideal t .f32 := finV (mulf s cInv)
def devV (s q : FVec Ideal t .f32) : FVec Ideal t .f32 :=
  finV (sqrt (maximumf (subf (mulf q cInv) (mulf (mulf s cInv) (mulf s cInv))) cZero))

theorem fin_apply (x : FVec Ideal t .f32) (i : t.Idx) : finV x i = orZero (x i) := by
  show Scalar.select (IntOp.xori (BitVec.ofBool (decide (x i = ⊤ ∨ x i = ⊥))) 1#1) (x i) (Ideal.ofBits .f32 0x00000000#32) = orZero (x i)
  rw [Ideal.ofBits_zero_f32]
  unfold orZero
  by_cases h : x i = ⊤ ∨ x i = ⊥
  · rw [if_pos h, decide_eq_true h]; rfl
  · rw [if_neg h, decide_eq_false h]; rfl

theorem meanV_apply (s : FVec Ideal t .f32) (i : t.Idx) : meanV s i = orZero (meanOf (s i)) := by
  unfold meanV
  rw [fin_apply]
  show orZero (s i * Ideal.ofBits .f32 0x38800000#32) = _
  rw [ofBits_invRows]; rfl

theorem devV_apply (s q : FVec Ideal t .f32) (i : t.Idx) : devV s q i = orZero (devOf (s i) (q i)) := by
  unfold devV
  rw [fin_apply]
  show orZero (Ideal.sqrt (max (q i * Ideal.ofBits .f32 0x38800000#32
    - (s i * Ideal.ofBits .f32 0x38800000#32) * (s i * Ideal.ofBits .f32 0x38800000#32)) (Ideal.ofBits .f32 0x00000000#32))) = _
  rw [ofBits_invRows, Ideal.ofBits_zero_f32]; rfl

/-! ## The two results of the call -/

/-- The TensorCore's part: a channel's sums as the first call left them. -/
def flat (a : S24x3x8.Idx → EReal) : FVec Ideal S72x8 .f32 :=
  shapeCast S72x8 (shapeCast S24x3x8 a shapeCasts_S24x3x8_S24x3x8) shapeCasts_S24x3x8_S72x8

theorem pay1_eq (a b : S24x3x8.Idx → EReal) : k2_pay1 (F := Ideal) a b
    = concatenate S72x16 1 [⟨S72x8, meanV (flat a)⟩, ⟨S72x8, devV (flat a) (flat b)⟩] concatenates_S72x8_S72x8_S72x16_d1 := rfl

theorem flat_apply (a : S24x3x8.Idx → EReal) (i : Fin 24) (k : Fin 3) (s : Fin 8) :
    flat a (ix2 (⟨i.val * 3 + k.val, by omega⟩ : Fin 72) s) = a (ix3 i k s) := by
  unfold flat
  rw [shapeCast_self]
  exact shapeCast_apply a _ _ _ (by
    rw [Shape.rowMajor_val_three, Shape.rowMajor_val_two]; rfl)

theorem pay1_mean (a b : S24x3x8.Idx → EReal) (i : Fin 24) (k : Fin 3) (s : Fin 8) :
    k2_pay1 (F := Ideal) a b (ix2 (⟨i.val * 3 + k.val, by omega⟩ : Fin 72) (⟨s.val, by omega⟩ : Fin 16)) = orZero (meanOf (a (ix3 i k s))) := by
  rw [pay1_eq]
  refine (concatenate_pair_apply_left (t := S72x16) (s₁ := S72x8) 1 _ _ _ _ rfl (ix2 (⟨i.val * 3 + k.val, by omega⟩ : Fin 72) s) fun b => ?_).trans ?_
  · match b with
    | ⟨0, _⟩ => rfl
    | ⟨1, _⟩ => rfl
  · rw [meanV_apply, flat_apply]

theorem pay1_dev (a b : S24x3x8.Idx → EReal) (i : Fin 24) (k : Fin 3) (s : Fin 8) :
    k2_pay1 (F := Ideal) a b (ix2 (⟨i.val * 3 + k.val, by omega⟩ : Fin 72) (⟨8 + s.val, by omega⟩ : Fin 16))
      = orZero (devOf (a (ix3 i k s)) (b (ix3 i k s))) := by
  rw [pay1_eq]
  refine (concatenate_pair_apply_right (t := S72x16) (s₁ := S72x8) (s₂ := S72x8) 1 _ _ _ _ rfl rfl (ix2 (⟨i.val * 3 + k.val, by omega⟩ : Fin 72) s) (fun b hb => ?_) ?_).trans ?_
  · match b with
    | ⟨0, _⟩ => rfl
    | ⟨1, _⟩ => exact absurd rfl hb
  · show s.val + 8 = 8 + s.val
    omega
  · rw [devV_apply, flat_apply, flat_apply]

/-- The SparseCore's part: the eight slices of a row added up. -/
def sum8 (v : S132x2048.Idx → EReal) : FVec Ideal S132x256 .f32 :=
  let w := shapeCast S132x2048 v shapeCasts_S132x2048_S132x2048
  addf (addf (addf (addf (addf (addf (addf (extractStridedSlice S132x256 ![0, 0] w slices_S132x2048_o0_0_S132x256 : FVec Ideal S132x256 .f32)
    (extractStridedSlice S132x256 ![0, 256] w slices_S132x2048_o0_256_S132x256)) (extractStridedSlice S132x256 ![0, 512] w slices_S132x2048_o0_512_S132x256))
    (extractStridedSlice S132x256 ![0, 768] w slices_S132x2048_o0_768_S132x256)) (extractStridedSlice S132x256 ![0, 1024] w slices_S132x2048_o0_1024_S132x256))
    (extractStridedSlice S132x256 ![0, 1280] w slices_S132x2048_o0_1280_S132x256)) (extractStridedSlice S132x256 ![0, 1536] w slices_S132x2048_o0_1536_S132x256))
    (extractStridedSlice S132x256 ![0, 1792] w slices_S132x2048_o0_1792_S132x256)

def lanesS (v : S132x2048.Idx → EReal) : FVec Ideal S132x8 .f32 :=
  multiReduction .add [2] S132x8 (shapeCast S132x8x16 (extractStridedSlice S132x128 ![0, 0] (sum8 v) slices_S132x256_o0_0_S132x128 : FVec Ideal S132x128 .f32)
    shapeCasts_S132x128_S132x8x16 : FVec Ideal S132x8x16 .f32) 0x00000000#32 reduces_S132x8x16_S132x8 (.inl rfl) rfl
def lanesQ (v : S132x2048.Idx → EReal) : FVec Ideal S132x8 .f32 :=
  multiReduction .add [2] S132x8 (shapeCast S132x8x16 (extractStridedSlice S132x128 ![0, 128] (sum8 v) slices_S132x256_o0_128_S132x128 : FVec Ideal S132x128 .f32)
    shapeCasts_S132x128_S132x8x16 : FVec Ideal S132x8x16 .f32) 0x00000000#32 reduces_S132x8x16_S132x8 (.inl rfl) rfl

theorem pay2_eq (v : S132x2048.Idx → EReal) : k2_pay2 (F := Ideal) v
    = concatenate S132x16 1 [⟨S132x8, meanV (lanesS v)⟩, ⟨S132x8, devV (lanesS v) (lanesQ v)⟩] concatenates_S132x8_S132x8_S132x16_d1 := rfl

theorem sum8_apply (v : S132x2048.Idx → EReal) (p : Fin 132) (e : Fin 256) :
    sum8 v (ix2 p e) = ∑ b : Fin 8, v (ix2 p (⟨b.val * 256 + e.val, by omega⟩ : Fin 2048)) := by
  unfold sum8
  rw [shapeCast_self]
  rw [Fin.sum_univ_eight]
  have key : ∀ (o : ℕ) (h : S132x2048.Slices ![0, o] S132x256) (b : Fin 8) (hb : o = b.val * 256),
      extractStridedSlice S132x256 ![0, o] v h (ix2 p e) = v (ix2 p (⟨b.val * 256 + e.val, by omega⟩ : Fin 2048)) := by
    intro o h b hb
    refine extractStridedSlice_apply _ _ _ _ _ fun a => ?_
    match a with
    | ⟨0, _⟩ => show p.val = 0 + p.val; omega
    | ⟨1, _⟩ => show b.val * 256 + e.val = o + e.val; omega
  show (extractStridedSlice S132x256 ![0, 0] v _ (ix2 p e) + extractStridedSlice S132x256 ![0, 256] v _ (ix2 p e)
    + extractStridedSlice S132x256 ![0, 512] v _ (ix2 p e) + extractStridedSlice S132x256 ![0, 768] v _ (ix2 p e)
    + extractStridedSlice S132x256 ![0, 1024] v _ (ix2 p e) + extractStridedSlice S132x256 ![0, 1280] v _ (ix2 p e)
    + extractStridedSlice S132x256 ![0, 1536] v _ (ix2 p e) + extractStridedSlice S132x256 ![0, 1792] v _ (ix2 p e) : EReal) = _
  rw [key 0 _ 0 rfl, key 256 _ 1 rfl, key 512 _ 2 rfl, key 768 _ 3 rfl, key 1024 _ 4 rfl, key 1280 _ 5 rfl, key 1536 _ 6 rfl, key 1792 _ 7 rfl]

theorem lanes_apply (v : S132x2048.Idx → EReal) (o : ℕ) (ho : o + 128 ≤ 256) (h : S132x256.Slices ![0, o] S132x128) (p : Fin 132) (s : Fin 8) :
    multiReduction .add [2] S132x8 (shapeCast S132x8x16 (extractStridedSlice S132x128 ![0, o] (sum8 v) h : FVec Ideal S132x128 .f32)
      shapeCasts_S132x128_S132x8x16 : FVec Ideal S132x8x16 .f32) 0x00000000#32 reduces_S132x8x16_S132x8 (.inl rfl) rfl (ix2 p s)
      = ∑ l : Fin 16, ∑ b : Fin 8, v (ix2 p (⟨b.val * 256 + (o + (s.val * 16 + l.val)), by omega⟩ : Fin 2048)) := by
  refine (Ideal.multiReduction_add_single _ _ _ _ _ _).trans (Finset.sum_congr rfl fun l _ => ?_)
  have hl : l.val < 16 := l.isLt
  refine (shapeCast_apply _ _ _ (ix2 p (⟨s.val * 16 + l.val, by omega⟩ : Fin 128)) ?_).trans ?_
  · rw [Shape.rowMajor_val_three, Shape.rowMajor_val_two]
    show p.val * 128 + (s.val * 16 + l.val) = (p.val * 8 + s.val) * 16 + l.val
    omega
  · refine (extractStridedSlice_apply _ _ _ _ (ix2 p (⟨o + (s.val * 16 + l.val), by omega⟩ : Fin 256)) fun a => ?_).trans (sum8_apply v p _)
    match a with
    | ⟨0, _⟩ => show p.val = 0 + p.val; omega
    | ⟨1, _⟩ => rfl

theorem pay2_mean (v : S132x2048.Idx → EReal) (p : Fin 132) (s : Fin 8) :
    k2_pay2 (F := Ideal) v (ix2 p (⟨s.val, by omega⟩ : Fin 16))
      = orZero (meanOf (∑ l : Fin 16, ∑ b : Fin 8, v (ix2 p (⟨b.val * 256 + (0 + (s.val * 16 + l.val)), by omega⟩ : Fin 2048)))) := by
  rw [pay2_eq]
  refine (concatenate_pair_apply_left (t := S132x16) (s₁ := S132x8) 1 _ _ _ _ rfl (ix2 p s) fun b => ?_).trans ?_
  · match b with
    | ⟨0, _⟩ => rfl
    | ⟨1, _⟩ => rfl
  · rw [meanV_apply]
    unfold lanesS
    rw [lanes_apply v 0 (by omega)]

theorem pay2_dev (v : S132x2048.Idx → EReal) (p : Fin 132) (s : Fin 8) :
    k2_pay2 (F := Ideal) v (ix2 p (⟨8 + s.val, by omega⟩ : Fin 16))
      = orZero (devOf (∑ l : Fin 16, ∑ b : Fin 8, v (ix2 p (⟨b.val * 256 + (0 + (s.val * 16 + l.val)), by omega⟩ : Fin 2048)))
          (∑ l : Fin 16, ∑ b : Fin 8, v (ix2 p (⟨b.val * 256 + (128 + (s.val * 16 + l.val)), by omega⟩ : Fin 2048)))) := by
  rw [pay2_eq]
  refine (concatenate_pair_apply_right (t := S132x16) (s₁ := S132x8) (s₂ := S132x8) 1 _ _ _ _ rfl rfl (ix2 p s) (fun b hb => ?_) ?_).trans ?_
  · match b with
    | ⟨0, _⟩ => rfl
    | ⟨1, _⟩ => exact absurd rfl hb
  · show s.val + 8 = 8 + s.val
    omega
  · rw [devV_apply]
    unfold lanesS lanesQ
    rw [lanes_apply v 0 (by omega), lanes_apply v 128 (by omega)]

end Cert.Proof.Stats

end
-- ==== Proof.Columns.lean ====
/-
  The partial sums of both cores, read at the extended reals: each is the sum, or the sum of squares, of one column of the
  input over all of its rows.
-/
module

public import proofs.«01_k».proof.Proof.Main
public import proofs.«01_k».proof.Proof.Stats

@[expose] public section

noncomputable section

namespace Cert.Proof.Columns

open Cert.KernelIdeal Cert.KernelIdeal.Gen Cert.Proof.Tile
open Idealize.ShloMosaic Idealize.ShloMosaic.ValueIdx
open Cert.Proof.Moments

/-! ## A sum over the rows, in the order of the pieces -/

theorem sum_range_mul {M : Type} [AddCommMonoid M] (m n : ℕ) (g : ℕ → M) :
    ∑ r ∈ Finset.range (m * n), g r = ∑ i ∈ Finset.range m, ∑ j ∈ Finset.range n, g (i * n + j) := by
  induction m with
  | zero => simp
  | succ m ih => rw [Nat.succ_mul, Finset.sum_range_add, ih, Finset.sum_range_succ]

/-- Sixteen lanes, eight pieces and the 128 groups of sixteen rows of a piece make up the 16384 rows. -/
theorem sum_rows {M : Type} [AddCommMonoid M] (g : ℕ → M) :
    ∑ l : Fin 16, ∑ b : Fin 8, ∑ n ∈ Finset.range 128, g (b.val * 2048 + (16 * n + l.val)) = ∑ r : Fin 16384, g r.val := by
  rw [Finset.sum_range (fun r => g r) |>.symm, show (16384 : ℕ) = 8 * 2048 from rfl, sum_range_mul]
  have e : ∀ b, ∑ j ∈ Finset.range 2048, g (b * 2048 + j)
      = ∑ l ∈ Finset.range 16, ∑ n ∈ Finset.range 128, g (b * 2048 + (16 * n + l)) := by
    intro b
    rw [show (2048 : ℕ) = 128 * 16 from rfl, sum_range_mul, Finset.sum_comm]
    refine Finset.sum_congr rfl fun l _ => Finset.sum_congr rfl fun n _ => ?_
    rw [Nat.mul_comm n 16]
  rw [Finset.sum_congr rfl fun b _ => e b, Finset.sum_comm, Finset.sum_range]
  refine Finset.sum_congr rfl fun l _ => ?_
  rw [Finset.sum_range]

/-! ## The SparseCore's sums -/

theorem accS_apply (Y : S8x2048.Idx → EReal) (s : Fin 8) (n : ℕ) (l : S16.Idx) :
    accS (F := Ideal) Y s n l = ∑ t ∈ Finset.range n, rowV (F := Ideal) Y s t l := by
  induction n with
  | zero => exact Ideal.ofBits_zero_f32
  | succ n ih => rw [Finset.sum_range_succ, ← ih]; rfl

theorem accQ_apply (Y : S8x2048.Idx → EReal) (s : Fin 8) (n : ℕ) (l : S16.Idx) :
    accQ (F := Ideal) Y s n l = ∑ t ∈ Finset.range n, rowV (F := Ideal) Y s t l * rowV (F := Ideal) Y s t l := by
  induction n with
  | zero => exact Ideal.ofBits_zero_f32
  | succ n ih => rw [Finset.sum_range_succ, ← ih]; rfl

/-- Column `(k, c)` of the transposed input, its rows by their numbers. -/
def colN (X : S3x543x16384.Idx → EReal) (k : Fin 3) (c : Fin 543) (r : ℕ) : EReal :=
  X (ix3 k c (⟨r % 16384, Nat.mod_lt _ (by decide)⟩ : Fin 16384))

/-- A row of a piece is a stretch of a column. -/
theorem rowV_piece (X : S3x543x16384.Idx → EReal) (p : Fin 132) (s b : Fin 8) (c : Fin 543) (k : Fin 3) (hp : p.val = k.val * 44 + c.val / 8)
    (hs : s.val = c.val % 8) (hc : c.val < 352) (n : ℕ) (hn : n < 128) (l : S16.Idx) :
    rowV (F := Ideal) (pieceV (F := Ideal) X (p.val * 8 + b.val)) s n l = colN X k c (b.val * 2048 + (16 * n + (l 0).val)) := by
  have hl : (l 0).val < 16 := (l 0).isLt
  refine congrArg X (funext fun a => Fin.ext ?_)
  match a with
  | ⟨0, _⟩ => show (p.val * 8 + b.val) % 1056 / 352 = k.val; omega
  | ⟨1, _⟩ => show (p.val * 8 + b.val) % 1056 % 352 / 8 * 8 + s.val = c.val; omega
  | ⟨2, _⟩ => show (p.val * 8 + b.val) % 1056 % 8 * 2048 + (16 * n + (l 0).val) % 2048 = (b.val * 2048 + (16 * n + (l 0).val)) % 16384; omega

theorem scOut_sum (X : S3x543x16384.Idx → EReal) (p : Fin 132) (s b : Fin 8) (l : Fin 16) (c : Fin 543) (k : Fin 3)
    (hp : p.val = k.val * 44 + c.val / 8) (hs : s.val = c.val % 8) (hc : c.val < 352)
    (o : ℕ) (ho : o < 270336) (e : o = p.val * 2048 + (b.val * 256 + (0 + (s.val * 16 + l.val)))) :
    scOut (F := Ideal) X (ix1 (⟨o, ho⟩ : Fin 270336)) = ∑ n ∈ Finset.range 128, colN X k c (b.val * 2048 + (16 * n + l.val)) := by
  show pieceOut (F := Ideal) (pieceV X (o / 256)) (o % 256) = _
  rw [show o / 256 = p.val * 8 + b.val by omega, show o % 256 = s.val * 16 + l.val by omega]
  unfold pieceOut
  rw [if_pos (by omega), accS_apply]
  refine Finset.sum_congr rfl fun n hn => ?_
  rw [show (⟨(s.val * 16 + l.val) / 16 % 8, Nat.mod_lt _ (by decide)⟩ : Fin 8) = s from Fin.ext (by show (s.val * 16 + l.val) / 16 % 8 = s.val; omega)]
  rw [rowV_piece X p s b c k hp hs hc n (Finset.mem_range.mp hn)]
  show colN X k c (b.val * 2048 + (16 * n + (s.val * 16 + l.val) % 16)) = _
  rw [show (s.val * 16 + l.val) % 16 = l.val by omega]

theorem scOut_sq (X : S3x543x16384.Idx → EReal) (p : Fin 132) (s b : Fin 8) (l : Fin 16) (c : Fin 543) (k : Fin 3)
    (hp : p.val = k.val * 44 + c.val / 8) (hs : s.val = c.val % 8) (hc : c.val < 352)
    (o : ℕ) (ho : o < 270336) (e : o = p.val * 2048 + (b.val * 256 + (128 + (s.val * 16 + l.val)))) :
    scOut (F := Ideal) X (ix1 (⟨o, ho⟩ : Fin 270336))
      = ∑ n ∈ Finset.range 128, colN X k c (b.val * 2048 + (16 * n + l.val)) * colN X k c (b.val * 2048 + (16 * n + l.val)) := by
  show pieceOut (F := Ideal) (pieceV X (o / 256)) (o % 256) = _
  rw [show o / 256 = p.val * 8 + b.val by omega, show o % 256 = 128 + (s.val * 16 + l.val) by omega]
  unfold pieceOut
  rw [if_neg (by omega), accQ_apply]
  refine Finset.sum_congr rfl fun n hn => ?_
  rw [show (⟨(128 + (s.val * 16 + l.val)) / 16 % 8, Nat.mod_lt _ (by decide)⟩ : Fin 8) = s
    from Fin.ext (by show (128 + (s.val * 16 + l.val)) / 16 % 8 = s.val; omega)]
  rw [rowV_piece X p s b c k hp hs hc n (Finset.mem_range.mp hn)]
  show colN X k c (b.val * 2048 + (16 * n + (128 + (s.val * 16 + l.val)) % 16)) * colN X k c (b.val * 2048 + (16 * n + (128 + (s.val * 16 + l.val)) % 16)) = _
  rw [show (128 + (s.val * 16 + l.val)) % 16 = l.val by omega]

/-- Column `(k, c)` of the transposed input. -/
def col (X : S3x543x16384.Idx → EReal) (k : Fin 3) (c : Fin 543) (r : Fin 16384) : EReal := X (ix3 k c r)

theorem colN_val (X : S3x543x16384.Idx → EReal) (k : Fin 3) (c : Fin 543) (r : Fin 16384) : colN X k c r.val = col X k c r := by
  unfold colN col
  rw [show (⟨r.val % 16384, Nat.mod_lt _ (by decide)⟩ : Fin 16384) = r from Fin.ext (Nat.mod_eq_of_lt r.isLt)]

/-- The sums of the SparseCore as the matrix that the last call reads. -/
def mat (X : S3x543x16384.Idx → EReal) : S132x2048.Idx → EReal := shapeCast S132x2048 (scOut (F := Ideal) X) shapeCasts_S270336_S132x2048

theorem mat_apply (X : S3x543x16384.Idx → EReal) (p : Fin 132) (e : Fin 2048) :
    mat X (ix2 p e) = scOut (F := Ideal) X (ix1 (⟨p.val * 2048 + e.val, by omega⟩ : Fin 270336)) :=
  shapeCast_apply _ _ _ _ (by rw [Shape.rowMajor_val_one, Shape.rowMajor_val_two]; rfl)

theorem mat_sum (X : S3x543x16384.Idx → EReal) (p : Fin 132) (s : Fin 8) (c : Fin 543) (k : Fin 3) (hp : p.val = k.val * 44 + c.val / 8)
    (hs : s.val = c.val % 8) (hc : c.val < 352) :
    ∑ l : Fin 16, ∑ b : Fin 8, mat X (ix2 p (⟨b.val * 256 + (0 + (s.val * 16 + l.val)), by omega⟩ : Fin 2048)) = ∑ r, col X k c r := by
  rw [Finset.sum_congr rfl fun r _ => (colN_val X k c r).symm, ← sum_rows (colN X k c)]
  refine Finset.sum_congr rfl fun l _ => Finset.sum_congr rfl fun b _ => ?_
  rw [mat_apply]
  exact scOut_sum X p s b l c k hp hs hc _ _ rfl

theorem mat_sq (X : S3x543x16384.Idx → EReal) (p : Fin 132) (s : Fin 8) (c : Fin 543) (k : Fin 3) (hp : p.val = k.val * 44 + c.val / 8)
    (hs : s.val = c.val % 8) (hc : c.val < 352) :
    ∑ l : Fin 16, ∑ b : Fin 8, mat X (ix2 p (⟨b.val * 256 + (128 + (s.val * 16 + l.val)), by omega⟩ : Fin 2048)) = ∑ r, col X k c r * col X k c r := by
  rw [Finset.sum_congr rfl fun r _ => congrArg₂ (· * ·) (colN_val X k c r).symm (colN_val X k c r).symm,
    ← sum_rows (fun r => colN X k c r * colN X k c r)]
  refine Finset.sum_congr rfl fun l _ => Finset.sum_congr rfl fun b _ => ?_
  rw [mat_apply]
  exact scOut_sq X p s b l c k hp hs hc _ _ rfl

/-- The SparseCore's columns, finished. -/
theorem sc_mean (X : S3x543x16384.Idx → EReal) (p : Fin 132) (s : Fin 8) (c : Fin 543) (k : Fin 3) (hp : p.val = k.val * 44 + c.val / 8)
    (hs : s.val = c.val % 8) (hc : c.val < 352) :
    k2_pay2 (F := Ideal) (mat X) (ix2 p (⟨s.val, by omega⟩ : Fin 16)) = orZero (mean (col X k c)) := by
  rw [Stats.pay2_mean, mat_sum X p s c k hp hs hc, mean_eq]

theorem sc_dev (X : S3x543x16384.Idx → EReal) (p : Fin 132) (s : Fin 8) (c : Fin 543) (k : Fin 3) (hp : p.val = k.val * 44 + c.val / 8)
    (hs : s.val = c.val % 8) (hc : c.val < 352) :
    k2_pay2 (F := Ideal) (mat X) (ix2 p (⟨8 + s.val, by omega⟩ : Fin 16)) = orZero (dev (col X k c)) := by
  rw [Stats.pay2_dev, mat_sum X p s c k hp hs hc, mat_sq X p s c k hp hs hc, dev_eq (Fintype.card_fin _)]

end Cert.Proof.Columns

end
-- ==== Proof.Fetched.lean ====
/-
  The first TensorCore call's sums, read at the extended reals: an entry of its results whose channel lies in the array is
  the sum, or the sum of squares, of that channel's column, whatever lay past the array's end in the fetched block.
-/
module

public import proofs.«01_k».proof.Proof.Columns

@[expose] public section

noncomputable section

namespace Cert.Proof.Columns

open Cert.KernelIdeal Cert.KernelIdeal.Gen Cert.Proof.Tile
open Idealize.ShloMosaic Idealize.ShloMosaic.ValueIdx
open Cert.Proof.Moments

theorem trans0 : ∀ t : Fin 24, cc1_transform_0 (grid1.coords t) 0 = 0 ∧ cc1_transform_0 (grid1.coords t) 1 = 44 + t.val
    ∧ cc1_transform_0 (grid1.coords t) 2 = 0 := by decide +kernel

/-- A coordinate inside its block and inside the array is moved. -/
theorem clip_lt (ix k d j : ℕ) (hj : j < k) (h : ix * k + j < d) : j < (Pipeline.Clip.of ix k d).extent k := by
  unfold Pipeline.Clip.of
  split
  · exact hj
  · show j < d - ix * k
    omega

/-- A fetched block's entry whose channel lies in the array. -/
theorem fetched1_apply (X : S3x543x16384.Idx → EReal) (t : Fin 24) (d : S3x8x16384.Idx → EReal) (k : Fin 3) (j : Fin 8) (r : Fin 16384)
    (c : Fin 543) (hc : c.val = 352 + t.val * 8 + j.val) :
    fetched1 (F := Ideal) X t d (ix3 k j r) = X (ix3 k c r) := by
  obtain ⟨h0, h1, h2⟩ := trans0 t
  have hm : (cfg1.win 0).moved (cfg1.grid.coords t) (ix3 k j r : S3x8x16384.Idx) = true :=
    ((cfg1.win 0).moved_iff _ _).mpr fun a => by
      refine clip_lt (cc1_transform_0 (grid1.coords t) a) (S3x8x16384.size a) (S3x543x16384.size a) ((ix3 k j r : S3x8x16384.Idx) a).val
        ((ix3 k j r : S3x8x16384.Idx) a).isLt ?_
      match a with
      | ⟨0, _⟩ =>
        rw [show cc1_transform_0 (grid1.coords t) ⟨0, by decide⟩ = 0 from h0, Nat.zero_mul, Nat.zero_add]
        exact k.isLt
      | ⟨1, _⟩ =>
        rw [show cc1_transform_0 (grid1.coords t) ⟨1, by decide⟩ = 44 + t.val from h1]
        show (44 + t.val) * 8 + j.val < 543
        omega
      | ⟨2, _⟩ =>
        rw [show cc1_transform_0 (grid1.coords t) ⟨2, by decide⟩ = 0 from h2, Nat.zero_mul, Nat.zero_add]
        exact r.isLt
  unfold fetched1 Pipeline.Window.fill
  rw [dif_pos hm]
  refine congrArg X (funext fun a => Fin.ext ?_)
  match a with
  | ⟨0, _⟩ => show cc1_transform_0 (grid1.coords t) 0 * 3 + 1 * k.val = k.val; rw [h0]; omega
  | ⟨1, _⟩ => show cc1_transform_0 (grid1.coords t) 1 * 8 + 1 * j.val = c.val; rw [h1]; omega
  | ⟨2, _⟩ => show cc1_transform_0 (grid1.coords t) 2 * 16384 + 1 * r.val = r.val; rw [h2]; omega

theorem pay2_apply (v : S3x8x16384.Idx → EReal) (k : Fin 3) (j : Fin 8) :
    k1_pay2 (F := Ideal) v (ix3 (0 : Fin 1) k j) = ∑ r : Fin 16384, v (ix3 k j r) := by
  show shapeCast S1x3x8 (multiReduction .add [2] S3x8 (shapeCast S3x8x16384 v shapeCasts_S3x8x16384_S3x8x16384 : FVec Ideal S3x8x16384 .f32)
    0x00000000#32 reduces_S3x8x16384_S3x8 (.inl rfl) rfl) shapeCasts_S3x8_S1x3x8 (ix3 (0 : Fin 1) k j) = _
  rw [shapeCast_self]
  refine (shapeCast_apply _ _ _ (ix2 k j) ?_).trans ?_
  · rw [Shape.rowMajor_val_three, Shape.rowMajor_val_two]
    show k.val * 8 + j.val = (0 * 3 + k.val) * 8 + j.val
    omega
  · refine (Ideal.multiReduction_add_single _ _ _ _ _ _).trans (Finset.sum_congr rfl fun r _ => ?_)
    exact congrArg v (funext fun a => match a with | ⟨0, _⟩ => rfl | ⟨1, _⟩ => rfl | ⟨2, _⟩ => rfl)

theorem pay3_apply (v : S3x8x16384.Idx → EReal) (k : Fin 3) (j : Fin 8) :
    k1_pay3 (F := Ideal) v (ix3 (0 : Fin 1) k j) = ∑ r : Fin 16384, v (ix3 k j r) * v (ix3 k j r) := by
  have e : k1_pay3 (F := Ideal) v = k1_pay2 (F := Ideal) (fun i => v i * v i) := by
    show shapeCast S1x3x8 (multiReduction .add [2] S3x8 (mulf (shapeCast S3x8x16384 v shapeCasts_S3x8x16384_S3x8x16384 : FVec Ideal S3x8x16384 .f32)
      (shapeCast S3x8x16384 v shapeCasts_S3x8x16384_S3x8x16384)) 0x00000000#32 reduces_S3x8x16384_S3x8 (.inl rfl) rfl) shapeCasts_S3x8_S1x3x8
      = shapeCast S1x3x8 (multiReduction .add [2] S3x8 (shapeCast S3x8x16384 (fun i => v i * v i) shapeCasts_S3x8x16384_S3x8x16384 : FVec Ideal S3x8x16384 .f32)
        0x00000000#32 reduces_S3x8x16384_S3x8 (.inl rfl) rfl) shapeCasts_S3x8_S1x3x8
    rw [shapeCast_self, shapeCast_self]; rfl
  rw [e, pay2_apply]

theorem part_sum (X : S3x543x16384.Idx → EReal) (a b : S24x3x8.Idx → EReal) (h : Part (F := Ideal) X a b) (t : Fin 24) (k : Fin 3) (j : Fin 8)
    (c : Fin 543) (hc : c.val = 352 + t.val * 8 + j.val) :
    a (ix3 t k j) = ∑ r, col X k c r ∧ b (ix3 t k j) = ∑ r, col X k c r * col X k c r := by
  obtain ⟨⟨d, hd⟩, d', hd'⟩ := h (ix3 t k j)
  have eb : blkIdx (ix3 t k j) = ix3 (0 : Fin 1) k j := funext fun a => match a with | ⟨0, _⟩ => rfl | ⟨1, _⟩ => rfl | ⟨2, _⟩ => rfl
  rw [hd, hd', eb, pay2_apply, pay3_apply]
  exact ⟨Finset.sum_congr rfl fun r _ => fetched1_apply X t d k j r c hc,
    Finset.sum_congr rfl fun r _ => congrArg₂ (· * ·) (fetched1_apply X t d' k j r c hc) (fetched1_apply X t d' k j r c hc)⟩

/-- The TensorCore's columns, finished. -/
theorem tc_mean (X : S3x543x16384.Idx → EReal) (a b : S24x3x8.Idx → EReal) (h : Part (F := Ideal) X a b) (t : Fin 24) (k : Fin 3) (j : Fin 8)
    (c : Fin 543) (hc : c.val = 352 + t.val * 8 + j.val) :
    k2_pay1 (F := Ideal) a b (ix2 (⟨t.val * 3 + k.val, by omega⟩ : Fin 72) (⟨j.val, by omega⟩ : Fin 16)) = orZero (mean (col X k c)) := by
  rw [Stats.pay1_mean, (part_sum X a b h t k j c hc).1, mean_eq]

theorem tc_dev (X : S3x543x16384.Idx → EReal) (a b : S24x3x8.Idx → EReal) (h : Part (F := Ideal) X a b) (t : Fin 24) (k : Fin 3) (j : Fin 8)
    (c : Fin 543) (hc : c.val = 352 + t.val * 8 + j.val) :
    k2_pay1 (F := Ideal) a b (ix2 (⟨t.val * 3 + k.val, by omega⟩ : Fin 72) (⟨8 + j.val, by omega⟩ : Fin 16)) = orZero (dev (col X k c)) := by
  rw [Stats.pay1_dev, (part_sum X a b h t k j c hc).1, (part_sum X a b h t k j c hc).2, dev_eq (Fintype.card_fin _)]

end Cert.Proof.Columns

end
-- ==== Proof.Tail.lean ====
/-
  The host's last operations put the finished statistics in the order of the columns: entry `3 c + k` of the result is the
  mean of column `(k, c)`, entry `1629 + 3 c + k` its deviation.
-/
module

public import proofs.«01_k».proof.Proof.Fetched

@[expose] public section

noncomputable section

namespace Cert.Proof.Columns

open Cert.KernelIdeal Cert.KernelIdeal.Gen Cert.Proof.Tile
open Idealize.ShloMosaic Idealize.ShloMosaic.ValueIdx
open Cert.Proof.Moments

variable {α : Type}

/-- A table of eight channels a row, for 44 rows a coordinate, as a table of coordinates by channels. -/
theorem left_apply (x : S132x8.Idx → α) (k : Fin 3) (c : Fin 352) :
    shapeCast S3x352 x shapeCasts_S132x8_S3x352 (ix2 k c) = x (ix2 (⟨k.val * 44 + c.val / 8, by omega⟩ : Fin 132) (⟨c.val % 8, by omega⟩ : Fin 8)) :=
  shapeCast_apply x _ _ _ (by
    rw [Shape.rowMajor_val_two, Shape.rowMajor_val_two]
    show (k.val * 44 + c.val / 8) * 8 + c.val % 8 = k.val * 352 + c.val
    omega)

/-- The TensorCore's table, whose rows go by blocks of channels first. -/
theorem right_apply (x : S72x8.Idx → α) (k : Fin 3) (c : Fin 192) :
    shapeCast S3x192 (transpose S3x24x8 [1, 0, 2] (shapeCast S24x3x8 x shapeCasts_S72x8_S24x3x8) transposes_S24x3x8_S3x24x8_1_0_2)
      shapeCasts_S3x24x8_S3x192 (ix2 k c) = x (ix2 (⟨c.val / 8 * 3 + k.val, by omega⟩ : Fin 72) (⟨c.val % 8, by omega⟩ : Fin 8)) := by
  refine (shapeCast_apply _ _ _ (ix3 k (⟨c.val / 8, by omega⟩ : Fin 24) (⟨c.val % 8, by omega⟩ : Fin 8)) ?_).trans ?_
  · rw [Shape.rowMajor_val_three, Shape.rowMajor_val_two]
    show (k.val * 24 + c.val / 8) * 8 + c.val % 8 = k.val * 192 + c.val
    omega
  refine (transpose_apply _ _ _ _ (ix3 (⟨c.val / 8, by omega⟩ : Fin 24) k (⟨c.val % 8, by omega⟩ : Fin 8)) fun b => ?_).trans ?_
  · match b with
    | ⟨0, _⟩ => rfl
    | ⟨1, _⟩ => rfl
    | ⟨2, _⟩ => rfl
  exact shapeCast_apply _ _ _ _ (by
    rw [Shape.rowMajor_val_three, Shape.rowMajor_val_two]
    rfl)

/-- The two tables side by side. -/
def table (x : S132x8.Idx → α) (y : S72x8.Idx → α) : S3x544.Idx → α :=
  concatenate S3x544 1 [⟨S3x352, shapeCast S3x352 x shapeCasts_S132x8_S3x352⟩,
    ⟨S3x192, shapeCast S3x192 (transpose S3x24x8 [1, 0, 2] (shapeCast S24x3x8 y shapeCasts_S72x8_S24x3x8)
      transposes_S24x3x8_S3x24x8_1_0_2) shapeCasts_S3x24x8_S3x192⟩] concatenates_S3x352_S3x192_S3x544_d1

theorem table_apply (x : S132x8.Idx → α) (y : S72x8.Idx → α) (g : Fin 3 → Fin 543 → α) (k : Fin 3) (c : Fin 543)
    (hx : ∀ h : c.val < 352, x (ix2 (⟨k.val * 44 + c.val / 8, by omega⟩ : Fin 132) (⟨c.val % 8, by omega⟩ : Fin 8)) = g k c)
    (hy : ∀ h : 352 ≤ c.val, y (ix2 (⟨(c.val - 352) / 8 * 3 + k.val, by omega⟩ : Fin 72) (⟨(c.val - 352) % 8, by omega⟩ : Fin 8)) = g k c) :
    table x y (ix2 k (⟨c.val, by omega⟩ : Fin 544)) = g k c := by
  unfold table
  by_cases h : c.val < 352
  · refine (concatenate_pair_apply_left (t := S3x544) (s₁ := S3x352) 1 _ _ _ _ rfl (ix2 k (⟨c.val, h⟩ : Fin 352)) fun b => ?_).trans ?_
    · match b with
      | ⟨0, _⟩ => rfl
      | ⟨1, _⟩ => rfl
    · rw [left_apply]; exact hx h
  · refine (concatenate_pair_apply_right (t := S3x544) (s₁ := S3x352) (s₂ := S3x192) 1 _ _ _ _ rfl rfl
      (ix2 k (⟨c.val - 352, by omega⟩ : Fin 192)) (fun b hb => ?_) ?_).trans ?_
    · match b with
      | ⟨0, _⟩ => rfl
      | ⟨1, _⟩ => exact absurd rfl hb
    · show c.val - 352 + 352 = c.val
      omega
    · rw [right_apply]; exact hy (by omega)

/-- A table of coordinates by channels as one row, a channel's three coordinates together. -/
def row (v : S3x544.Idx → α) : S1629.Idx → α :=
  shapeCast S1629 (transpose S543x3 [1, 0] (extractStridedSlice S3x543 ![0, 0] v slices_S3x544_S3x543_0_0) transposes_S3x543_S543x3_1_0) shapeCasts_S543x3_S1629

theorem row_apply (v : S3x544.Idx → α) (n : Fin 1629) :
    row v (ix1 n) = v (ix2 (⟨n.val % 3, by omega⟩ : Fin 3) (⟨n.val / 3, by omega⟩ : Fin 544)) := by
  unfold row
  refine (shapeCast_apply _ _ _ (ix2 (⟨n.val / 3, by omega⟩ : Fin 543) (⟨n.val % 3, by omega⟩ : Fin 3)) ?_).trans ?_
  · rw [Shape.rowMajor_val_one, Shape.rowMajor_val_two]
    show n.val / 3 * 3 + n.val % 3 = n.val
    omega
  refine (transpose_apply _ _ _ _ (ix2 (⟨n.val % 3, by omega⟩ : Fin 3) (⟨n.val / 3, by omega⟩ : Fin 543)) fun b => ?_).trans ?_
  · match b with
    | ⟨0, _⟩ => rfl
    | ⟨1, _⟩ => rfl
  refine extractStridedSlice_apply _ _ _ _ _ fun a => ?_
  match a with
  | ⟨0, _⟩ => show n.val % 3 = 0 + n.val % 3; omega
  | ⟨1, _⟩ => show n.val / 3 = 0 + n.val / 3; omega

/-- The statistics of all columns: the means, then the deviations. -/
def stat (f : Fin 3 → Fin 543 → Fin 16384 → EReal) (n : Fin 3258) : EReal :=
  if h : n.val < 1629 then orZero (mean (f (⟨n.val % 3, by omega⟩ : Fin 3) (⟨n.val / 3, by omega⟩ : Fin 543)))
  else orZero (dev (f (⟨(n.val - 1629) % 3, by omega⟩ : Fin 3) (⟨(n.val - 1629) / 3, by omega⟩ : Fin 543)))

theorem tailVal_eq (p : S132x16.Idx → EReal) (q : S72x16.Idx → EReal) : tailVal (F := Ideal) p q
    = broadcastInDim S1x3258 ![1] bcast_S3258_S1x3258_1 (concatenate S3258 0
      [⟨S1629, row (table (extractStridedSlice S132x8 ![0, 0] p slices_S132x16_S132x8_0_0) (extractStridedSlice S72x8 ![0, 0] q slices_S72x16_S72x8_0_0))⟩,
        ⟨S1629, row (table (extractStridedSlice S132x8 ![0, 8] p slices_S132x16_S132x8_0_8) (extractStridedSlice S72x8 ![0, 8] q slices_S72x16_S72x8_0_8))⟩]
      concatenates_S1629_S1629_S3258_d0) := rfl

theorem tail_stat (X : S3x543x16384.Idx → EReal) (a b : S24x3x8.Idx → EReal) (h : Part (F := Ideal) X a b) (i : Fin 1) (n : Fin 3258) :
    tailVal (F := Ideal) (k2_pay2 (F := Ideal) (mat X)) (k2_pay1 (F := Ideal) a b) (ix2 i n) = stat (col X) n := by
  rw [tailVal_eq]
  refine (broadcastInDim_apply _ _ _ _ (ix1 n) fun a => ?_).trans ?_
  · match a with
    | ⟨0, _⟩ => exact (if_neg (show ¬(3258 : ℕ) = 1 by decide)).symm
  unfold stat
  by_cases hn : n.val < 1629
  · rw [dif_pos hn]
    refine (concatenate_pair_apply_left (t := S3258) (s₁ := S1629) 0 _ _ _ _ rfl (ix1 (⟨n.val, hn⟩ : Fin 1629)) fun b => ?_).trans ?_
    · match b with
      | ⟨0, _⟩ => rfl
    rw [row_apply]
    refine table_apply _ _ (fun k c => orZero (mean (col X k c))) (⟨n.val % 3, by omega⟩ : Fin 3) (⟨n.val / 3, by omega⟩ : Fin 543) (fun hc => ?_) fun hc => ?_
    · refine (extractStridedSlice_apply _ _ _ _ _ fun a => ?_).trans (sc_mean X (⟨n.val % 3 * 44 + n.val / 3 / 8, by have : n.val / 3 < 352 := hc; omega⟩ : Fin 132)
        (⟨n.val / 3 % 8, by omega⟩ : Fin 8) (⟨n.val / 3, by omega⟩ : Fin 543) (⟨n.val % 3, by omega⟩ : Fin 3) rfl rfl hc)
      match a with
      | ⟨0, _⟩ => exact (Nat.zero_add _).symm
      | ⟨1, _⟩ => exact (Nat.zero_add _).symm
    · have hc' : 352 ≤ n.val / 3 := hc
      refine (extractStridedSlice_apply _ _ _ _ _ fun a => ?_).trans (tc_mean X a b h (⟨(n.val / 3 - 352) / 8, by omega⟩ : Fin 24) (⟨n.val % 3, by omega⟩ : Fin 3)
        (⟨(n.val / 3 - 352) % 8, by omega⟩ : Fin 8) (⟨n.val / 3, by omega⟩ : Fin 543) (by show n.val / 3 = 352 + (n.val / 3 - 352) / 8 * 8 + (n.val / 3 - 352) % 8; omega))
      match a with
      | ⟨0, _⟩ => exact (Nat.zero_add _).symm
      | ⟨1, _⟩ => exact (Nat.zero_add _).symm
  · rw [dif_neg hn]
    refine (concatenate_pair_apply_right (t := S3258) (s₁ := S1629) (s₂ := S1629) 0 _ _ _ _ rfl rfl (ix1 (⟨n.val - 1629, by omega⟩ : Fin 1629))
      (fun b hb => ?_) ?_).trans ?_
    · match b with
      | ⟨0, _⟩ => exact absurd rfl hb
    · show n.val - 1629 + 1629 = n.val
      omega
    rw [row_apply]
    refine table_apply _ _ (fun k c => orZero (dev (col X k c))) (⟨(n.val - 1629) % 3, by omega⟩ : Fin 3) (⟨(n.val - 1629) / 3, by omega⟩ : Fin 543) (fun hc => ?_) fun hc => ?_
    · refine (extractStridedSlice_apply _ _ _ _ _ fun a => ?_).trans (sc_dev X (⟨(n.val - 1629) % 3 * 44 + (n.val - 1629) / 3 / 8, by have : (n.val - 1629) / 3 < 352 := hc; omega⟩ : Fin 132)
        (⟨(n.val - 1629) / 3 % 8, by omega⟩ : Fin 8) (⟨(n.val - 1629) / 3, by omega⟩ : Fin 543) (⟨(n.val - 1629) % 3, by omega⟩ : Fin 3) rfl rfl hc)
      match a with
      | ⟨0, _⟩ => exact (Nat.zero_add _).symm
      | ⟨1, _⟩ => rfl
    · have hc' : 352 ≤ (n.val - 1629) / 3 := hc
      refine (extractStridedSlice_apply _ _ _ _ _ fun a => ?_).trans (tc_dev X a b h (⟨((n.val - 1629) / 3 - 352) / 8, by omega⟩ : Fin 24) (⟨(n.val - 1629) % 3, by omega⟩ : Fin 3)
        (⟨((n.val - 1629) / 3 - 352) % 8, by omega⟩ : Fin 8) (⟨(n.val - 1629) / 3, by omega⟩ : Fin 543)
        (by show (n.val - 1629) / 3 = 352 + ((n.val - 1629) / 3 - 352) / 8 * 8 + ((n.val - 1629) / 3 - 352) % 8; omega))
      match a with
      | ⟨0, _⟩ => exact (Nat.zero_add _).symm
      | ⟨1, _⟩ => rfl

end Cert.Proof.Columns

end
-- ==== Proof.RefValue.lean ====
/-
  The reference's result at an index: entry `3 c + k` is the mean of column `(k, c)`, entry `1629 + 3 c + k` its deviation,
  each of them zero where it is infinite.
-/
module

public import proofs.«01_k».proof.Proof.Gen.ReferenceIdeal.Run
public import proofs.«01_k».proof.Proof.RefColumn
public import proofs.«01_k».proof.Proof.Tail

@[expose] public section

noncomputable section

namespace Cert.Proof.RefValue

open Cert.ReferenceIdeal Cert.ReferenceIdeal.Gen
open Idealize.ShloMosaic Idealize.ShloMosaic.TcCoe Idealize.ShloMosaic.ValueIdx
open Cert.Proof.Moments Cert.Proof.RefColumn
open Cert.Proof.Columns (stat)

/-! ## The four groups of channels, as matrices of columns -/

theorem fits1404 : Fits 1404 :=
  ⟨reducesTo_S16384x1404_S1404_d0, by decide, bcast_S_S1404, bcast_S1404_S1x1404_1, bcast_S1x1404_S16384x1404_0_1⟩
theorem fits63 : MaskFits 63 :=
  ⟨⟨reducesTo_S16384x63_S63_d0, by decide, bcast_S_S63, bcast_S63_S1x63_1, bcast_S1x63_S16384x63_0_1⟩, reducesTo_S16384x63_S16384_d1,
    bcast_S16384x1_S16384x63_0_1, bcast_S_S16384x63⟩
theorem fits99 : MaskFits 99 :=
  ⟨⟨reducesTo_S16384x99_S99_d0, by decide, bcast_S_S99, bcast_S99_S1x99_1, bcast_S1x99_S16384x99_0_1⟩, reducesTo_S16384x99_S16384_d1,
    bcast_S16384x1_S16384x99_0_1, bcast_S_S16384x99⟩

variable (A : FVec Ideal S16384x543x3 .f32)

/-- Channels `o` up to `o + w`, each with its three coordinates. -/
def group (o w n : ℕ) (hs : S16384x543x3.Slices ![0, o, 0] ⟨3, ![16384, w, 3]⟩) (hc : (⟨3, ![16384, w, 3]⟩ : Shape).ShapeCasts (Mat n)) :
    FVec Ideal (Mat n) .f32 :=
  shapeCast (Mat n) (extractStridedSlice ⟨3, ![16384, w, 3]⟩ ![0, o, 0] A hs) hc

theorem group_apply (o w n : ℕ) (hs : S16384x543x3.Slices ![0, o, 0] ⟨3, ![16384, w, 3]⟩) (hc : (⟨3, ![16384, w, 3]⟩ : Shape).ShapeCasts (Mat n))
    (hn : n = w * 3) (ho : o + w ≤ 543) (r : Fin 16384) (j : Fin n) :
    group A o w n hs hc (ix2 r j) = A (ix3 r (⟨o + j.val / 3, by omega⟩ : Fin 543) (⟨j.val % 3, by omega⟩ : Fin 3)) := by
  unfold group
  refine (shapeCast_apply _ _ _ (ix3 r (⟨j.val / 3, by omega⟩ : Fin w) (⟨j.val % 3, by omega⟩ : Fin 3)) ?_).trans ?_
  · rw [Shape.rowMajor_val_three, Shape.rowMajor_val_two]
    show (r.val * w + j.val / 3) * 3 + j.val % 3 = r.val * n + j.val
    have e : (r.val * w + j.val / 3) * 3 = r.val * n + j.val / 3 * 3 := by rw [Nat.add_mul, Nat.mul_assoc, ← hn]
    omega
  · refine extractStridedSlice_apply _ _ _ _ _ fun a => ?_
    match a with
    | ⟨0, _⟩ => exact (Nat.zero_add _).symm
    | ⟨1, _⟩ => rfl
    | ⟨2, _⟩ => exact (Nat.zero_add _).symm

def g0 := group A 0 468 1404 slices_S16384x543x3_S16384x468x3_0_0_0 shapeCasts_S16384x468x3_S16384x1404
def g1 := group A 468 21 63 slices_S16384x543x3_S16384x21x3_0_468_0 shapeCasts_S16384x21x3_S16384x63
def g2 := group A 489 33 99 slices_S16384x543x3_S16384x33x3_0_489_0 shapeCasts_S16384x33x3_S16384x99
def g3 := group A 522 21 63 slices_S16384x543x3_S16384x21x3_0_522_0 shapeCasts_S16384x21x3_S16384x63

/-! ## The result -/

/-- The statistics of the four groups, one after another. -/
def pieces : List ((s : Shape) × (s.Idx → EReal)) :=
  [⟨S1404, pMean fits1404 (g0 A)⟩, ⟨S63, mMean fits63 (g1 A)⟩, ⟨S99, mMean fits99 (g2 A)⟩, ⟨S63, mMean fits63 (g3 A)⟩,
    ⟨S1404, pDev fits1404 bcast_S_S1x1404 (g0 A)⟩, ⟨S63, mDev fits63 (g1 A)⟩, ⟨S99, mDev fits99 (g2 A)⟩, ⟨S63, mDev fits63 (g3 A)⟩]

def all : FVec Ideal S3258 .f32 :=
  concatenate S3258 0 (pieces A) concatenates_S1404_S63_S99_S63_S1404_S63_S99_S63_S3258_d0

theorem res_eq (m : (ℓ : Loc nD τ sig) → Buf (Elt Ideal) ℓ) (c : Dev nD) :
    Value.res_main_v84 m c = broadcastInDim S1x3258 ![1] bcast_S3258_S1x3258_1
      (finite bcast_S_S3258 (all (m ((c.tc : Thread nD τ).loc main_arg0)))) := rfl

/-- Piece `k` of the result, read at its own index. -/
theorem all_apply (k : ℕ) (hk : k < 8) (n : ℕ) (x : (Vec n).Idx → EReal) (hx : (pieces A)[k]'hk = ⟨Vec n, x⟩) (pre : ℕ)
    (hpre : ((((pieces A).take k).map (·.1)).map fun s => if h : s.rank = S3258.rank then s.size ((0 : Fin S3258.rank).cast h.symm) else 0).sum = pre)
    (j : Fin 3258) (i : Fin n) (hj : pre + i.val = j.val) : all A (ix1 j) = x (ix1 i) :=
  concatenate_apply_piece (t := S3258) 0 (pieces A) _ (ix1 j) k hk (Vec n) x hx rfl pre hpre (ix1 i)
    (fun b hb => by
      match b with
      | ⟨0, _⟩ => exact absurd rfl hb) hj

/-- The column of a channel's coordinate. -/
def colA (k : Fin 3) (c : Fin 543) (r : Fin 16384) : EReal := A (ix3 r c k)

theorem group_col (o w n : ℕ) (hs : S16384x543x3.Slices ![0, o, 0] ⟨3, ![16384, w, 3]⟩) (hc : (⟨3, ![16384, w, 3]⟩ : Shape).ShapeCasts (Mat n))
    (hn : n = w * 3) (ho : o + w ≤ 543) (j : Fin n) (q : ℕ) (hq : o * 3 + j.val = q) (h3 : q % 3 < 3) (h543 : q / 3 < 543) :
    (fun r : Fin 16384 => group A o w n hs hc (ix2 r j)) = colA A (⟨q % 3, h3⟩ : Fin 3) (⟨q / 3, h543⟩ : Fin 543) := by
  funext r
  rw [group_apply A o w n hs hc hn ho]
  subst hq
  unfold colA
  have e1 : (⟨o + j.val / 3, by omega⟩ : Fin 543) = ⟨(o * 3 + j.val) / 3, h543⟩ := Fin.ext (by show o + j.val / 3 = (o * 3 + j.val) / 3; omega)
  have e2 : (⟨j.val % 3, by omega⟩ : Fin 3) = ⟨(o * 3 + j.val) % 3, h3⟩ := Fin.ext (by show j.val % 3 = (o * 3 + j.val) % 3; omega)
  rw [e1, e2]

theorem all_stat (j : Fin 3258) : orZero (all A (ix1 j)) = stat (colA A) j := by
  unfold stat
  have hj := j.isLt
  by_cases h : j.val < 1629
  · rw [dif_pos h]
    congr 1
    by_cases h1 : j.val < 1404
    · rw [all_apply A 0 (by decide) 1404 _ rfl 0 rfl j ⟨j.val, h1⟩ (Nat.zero_add _), pMean_apply]
      exact congrArg mean (group_col A 0 468 1404 _ _ rfl (by decide) _ _ (by show 0 * 3 + j.val = j.val; omega) _ _)
    by_cases h2 : j.val < 1467
    · rw [all_apply A 1 (by decide) 63 _ rfl 1404 rfl j ⟨j.val - 1404, by omega⟩ (by show 1404 + (j.val - 1404) = j.val; omega), mMean_apply]
      exact congrArg mean (group_col A 468 21 63 _ _ rfl (by decide) _ _ (by show 468 * 3 + (j.val - 1404) = j.val; omega) _ _)
    by_cases h3 : j.val < 1566
    · rw [all_apply A 2 (by decide) 99 _ rfl 1467 rfl j ⟨j.val - 1467, by omega⟩ (by show 1467 + (j.val - 1467) = j.val; omega), mMean_apply]
      exact congrArg mean (group_col A 489 33 99 _ _ rfl (by decide) _ _ (by show 489 * 3 + (j.val - 1467) = j.val; omega) _ _)
    · rw [all_apply A 3 (by decide) 63 _ rfl 1566 rfl j ⟨j.val - 1566, by omega⟩ (by show 1566 + (j.val - 1566) = j.val; omega), mMean_apply]
      exact congrArg mean (group_col A 522 21 63 _ _ rfl (by decide) _ _ (by show 522 * 3 + (j.val - 1566) = j.val; omega) _ _)
  · rw [dif_neg h]
    congr 1
    by_cases h1 : j.val < 3033
    · rw [all_apply A 4 (by decide) 1404 _ rfl 1629 rfl j ⟨j.val - 1629, by omega⟩ (by show 1629 + (j.val - 1629) = j.val; omega), pDev_apply]
      exact congrArg dev (group_col A 0 468 1404 _ _ rfl (by decide) _ _ (by show 0 * 3 + (j.val - 1629) = j.val - 1629; omega) _ _)
    by_cases h2 : j.val < 3096
    · rw [all_apply A 5 (by decide) 63 _ rfl 3033 rfl j ⟨j.val - 3033, by omega⟩ (by show 3033 + (j.val - 3033) = j.val; omega), mDev_apply]
      exact congrArg dev (group_col A 468 21 63 _ _ rfl (by decide) _ _ (by show 468 * 3 + (j.val - 3033) = j.val - 1629; omega) _ _)
    by_cases h3 : j.val < 3195
    · rw [all_apply A 6 (by decide) 99 _ rfl 3096 rfl j ⟨j.val - 3096, by omega⟩ (by show 3096 + (j.val - 3096) = j.val; omega), mDev_apply]
      exact congrArg dev (group_col A 489 33 99 _ _ rfl (by decide) _ _ (by show 489 * 3 + (j.val - 3096) = j.val - 1629; omega) _ _)
    · rw [all_apply A 7 (by decide) 63 _ rfl 3195 rfl j ⟨j.val - 3195, by omega⟩ (by show 3195 + (j.val - 3195) = j.val; omega), mDev_apply]
      exact congrArg dev (group_col A 522 21 63 _ _ rfl (by decide) _ _ (by show 522 * 3 + (j.val - 3195) = j.val - 1629; omega) _ _)

theorem res_stat (m : (ℓ : Loc nD τ sig) → Buf (Elt Ideal) ℓ) (c : Dev nD) (i : Fin 1) (n : Fin 3258) :
    (Value.res_main_v84 m c : S1x3258.Idx → EReal) (ix2 i n) = stat (colA (m ((c.tc : Thread nD τ).loc main_arg0))) n := by
  rw [res_eq]
  refine (broadcastInDim_apply _ _ _ _ (ix1 n) fun a => ?_).trans ((finite_apply _ _ _).trans (all_stat _ n))
  match a with
  | ⟨0, _⟩ => exact (if_neg (show ¬(3258 : ℕ) = 1 by decide)).symm

end Cert.Proof.RefValue

end
-- ==== Proof.Algebraic.lean ====
/-
  Both programs' results are the means and the deviations of the same columns.
-/
module

public import proofs.«01_k».proof.Defs
public import proofs.«01_k».proof.Proof.RefValue

@[expose] public section

noncomputable section

namespace Cert.Proof

open Idealize.ShloMosaic Idealize.ShloMosaic.TcCoe Idealize.ShloMosaic.ValueIdx Idealize.SL.Sem

/-- A column of the kernel's transposed argument is a column of the argument. -/
theorem col_Xt (m : (ℓ : Loc Cert.KernelIdeal.nD Cert.KernelIdeal.τ Cert.KernelIdeal.sig) → Buf (Elt Ideal) ℓ) (d : Dev Cert.KernelIdeal.nD) :
    Columns.col (Tile.Xt m d) = RefValue.colA (m ((d.tc : Thread Cert.KernelIdeal.nD Cert.KernelIdeal.τ).loc Cert.KernelIdeal.main_arg0)) := by
  funext k c r
  unfold Columns.col RefValue.colA Tile.Xt
  refine transpose_apply _ _ _ _ (ix3 r c k) fun b => ?_
  match b with
  | ⟨0, _⟩ => rfl
  | ⟨1, _⟩ => rfl
  | ⟨2, _⟩ => rfl

theorem algebraic : Cert.algebraic_KernelIdeal_ReferenceIdeal := by
  intro m g m' g' _ hm
  refine ⟨fun c => Cert.ReferenceIdeal.Value.res_main_v84 m' c, ?_, Cert.ReferenceIdeal.Value.run (F := Ideal) m' g'⟩
  refine (θ_run Cert.KernelIdeal.defs _ _).mono (fun r h c => ⟨?_, (h.1 c).1⟩) (Tile.run_main (F := Ideal) m g)
  obtain ⟨-, a, b, hp, hv⟩ := h.1 c
  refine hv.trans (funext fun i => ?_)
  obtain ⟨i, n, rfl⟩ : ∃ (x : Fin 1) (n : Fin 3258), i = ix2 x n := ⟨_, _, eq_ix2 i⟩
  refine (Columns.tail_stat (Tile.Xt m c) a b hp i n).trans ?_
  refine Eq.trans ?_ (RefValue.res_stat m' c i n).symm
  rw [col_Xt, hm c]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.RefFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, frame_kernel, frame_kernelIdeal, frame_reference, trivial, algebraic⟩

end Cert.Proof

end
